-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_well_separated [hKernelIdeal : Cert.KernelIdeal.Facts] [hReferenceIdeal : Cert.ReferenceIdeal.Facts] [hOn_well_separated : Cert.On_well_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![512, 32768]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_well_separated.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_well_separated.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_well_separated : Cert.On_well_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_well_separated (hKernelIdeal := hKernelIdeal) (hReferenceIdeal := hReferenceIdeal) (hOn_well_separated := hOn_well_separated)
-- ==== On_well_separated.lean ====
abbrev S512x32768 : Shape := ⟨2, ![512, 32768]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩
abbrev S512x16x15 : Shape := ⟨3, ![512, 16, 15]⟩
abbrev S512x15 : Shape := ⟨2, ![512, 15]⟩
abbrev S512x1x15 : Shape := ⟨3, ![512, 1, 15]⟩
abbrev S512x1x8x32x128 : Shape := ⟨5, ![512, 1, 8, 32, 128]⟩
abbrev S512x16x1x1x1 : Shape := ⟨5, ![512, 16, 1, 1, 1]⟩
abbrev S512x16x8x32x128 : Shape := ⟨5, ![512, 16, 8, 32, 128]⟩
abbrev S512x16x8x128 : Shape := ⟨4, ![512, 16, 8, 128]⟩

class Facts : Prop where
  bitsLt_bf16_f32 : FTy.bits .bf16 < FTy.bits .f32
  slices_S512x32768_S512x16_0_0 : S512x32768.Slices ![0, 0] S512x16
  bcast_S_S512x16 : S_.BroadcastsInDim S512x16 (![] : Fin 0 → Fin S512x16.rank)
  shapeCasts_S512x16_S512x16x1 : S512x16.ShapeCasts S512x16x1
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  slices_S512x16_S512x15_0_0 : S512x16.Slices ![0, 0] S512x15
  bcast_S512x15_S512x1x15_0_2 : S512x15.BroadcastsInDim S512x1x15 (![0, 2] : Fin 2 → Fin S512x1x15.rank)
  slices_S512x16_S512x15_0_1 : S512x16.Slices ![0, 1] S512x15
  bcast_S512x1x15_S512x16x15_0_1_2 : S512x1x15.BroadcastsInDim S512x16x15 (![0, 1, 2] : Fin 3 → Fin S512x16x15.rank)
  reducesTo_S512x16x15_S512x16_d2 : S512x16x15.ReducesTo [2] S512x16
  shapeCasts_S512x32768_S512x1x8x32x128 : S512x32768.ShapeCasts S512x1x8x32x128
  bcast_S512x16_S512x16x1x1x1_0_1 : S512x16.BroadcastsInDim S512x16x1x1x1 (![0, 1] : Fin 2 → Fin S512x16x1x1x1.rank)
  bcast_S512x1x8x32x128_S512x16x8x32x128_0_1_2_3_4 : S512x1x8x32x128.BroadcastsInDim S512x16x8x32x128 (![0, 1, 2, 3, 4] : Fin 5 → Fin S512x16x8x32x128.rank)
  bcast_S512x16x1x1x1_S512x16x8x32x128_0_1_2_3_4 : S512x16x1x1x1.BroadcastsInDim S512x16x8x32x128 (![0, 1, 2, 3, 4] : Fin 5 → Fin S512x16x8x32x128.rank)
  natLt_1_32 : 1 < 32
  reducesTo_S512x16x8x32x128_S512x16x8x128_d3 : S512x16x8x32x128.ReducesTo [3] S512x16x8x128
  bcast_S_S512x16x8x128 : S_.BroadcastsInDim S512x16x8x128 (![] : Fin 0 → Fin S512x16x8x128.rank)
  reducesTo_S512x16x8x128_S512x16_d2_3 : S512x16x8x128.ReducesTo [2, 3] S512x16
  gather_S512x32768_S512x16x1_S512x16_n_1_0_0_1_2_11_wf : GatherDims.WF S512x32768 S512x16x1 S512x16 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x32768_S512x16x1_S512x16_n_1_0_0_1_2_11 : GatherDims S512x32768 S512x16x1 S512x16 where
  offsetDims := []
  collapsedSliceDims := [1]
  operandBatchingDims := [0]
  startIndicesBatchingDims := [0]
  startIndexMap := [1]
  indexVectorDim := 2
  sliceSizes := ![1, 1]
  wf := gather_S512x32768_S512x16x1_S512x16_n_1_0_0_1_2_11_wf

def fn_argsort {F : FTy → Type} [FloatOps F] (arg0 : FVec F S512x32768 .f32) : IVec S512x32768 32 :=
  let v0 : IVec S512x32768 32 := iotaInDim S512x32768 32 1
  let v1_0 : FVec F S512x32768 .f32 := (fun x y => (Host.sort2 S512x32768 1 comparator_f32_i32_d1 x y).1) arg0 v0
  let v1_1 : IVec S512x32768 32 := (fun x y => (Host.sort2 S512x32768 1 comparator_f32_i32_d1 x y).2) arg0 v0
  v1_1

def fn_take_along_axis {F : FTy → Type} [FloatOps F] (arg0 : FVec F S512x32768 .f32) (arg1 : IVec S512x16 32) : FVec F S512x16 .f32 :=
  let c : IVec S_ 32 := constantI S_ 32 0#32
  let v0 : IVec S512x16 32 := broadcastInDim S512x16 ![] bcast_S_S512x16 c
  let v1 : IVec S512x16 1 := cmpi .slt arg1 v0
  let c_0 : IVec S_ 32 := constantI S_ 32 32768#32
  let v2 : IVec S512x16 32 := broadcastInDim S512x16 ![] bcast_S_S512x16 c_0
  let v3 : IVec S512x16 32 := addi arg1 v2
  let v4 : IVec S512x16 32 := select v1 v3 arg1
  let v5 : IVec S512x16x1 32 := shapeCast S512x16x1 v4 shapeCasts_S512x16_S512x16x1
  let c_1 : IVec S1 32 := constantI S1 32 32767#32
  let c_2 : IVec S_ 32 := constantI S_ 32 0#32
  let v6 : IVec S512x16x1 32 := broadcastInDim S512x16x1 ![] bcast_S_S512x16x1 c_2
  let v7 : IVec S512x16x1 1 := cmpi .sge v5 v6
  let v8 : IVec S1x1x1 32 := broadcastInDim S1x1x1 ![2] bcast_S1_S1x1x1_2 c_1
  let v9 : IVec S512x16x1 32 := broadcastInDim S512x16x1 ![0, 1, 2] bcast_S1x1x1_S512x16x1_0_1_2 v8
  let v10 : IVec S512x16x1 1 := cmpi .sle v5 v9
  let v11 : IVec S512x16x1 1 := andi v7 v10
  let c_3 : IVec S_ 1 := constantI S_ 1 1#1
  let v12 : IVec S512x16 1 := (fun x v => Host.reduce IntOp.andi x v reducesTo_S512x16x1_S512x16_d2 h_S_) v11 c_3
  let v13 : FVec F S512x16 .f32 := (fun x i => Host.gather gather_S512x32768_S512x16x1_S512x16_n_1_0_0_1_2_11 x i) arg0 v5
  let cst : FVec F S_ .f32 := constant S_ .f32 0x7FC00000#32
  let v14 : FVec F S512x16 .f32 := broadcastInDim S512x16 ![] bcast_S_S512x16 cst
  let v15 : FVec F S512x16 .f32 := select v12 v13 v14
  v15

def fn_part1 {F : FTy → Type} [FloatOps F] (main_v15 : IVec S512x16 1) (main_v22 : IVec S512x16x8x32x128 32) : IVec S512x16 1 :=
  let main_c_0 : IVec S_ 32 := constantI S_ 32 0#32
  let main_v23 : IVec S512x16x8x128 32 := (fun x v => Host.reduce IntOp.addi x v reducesTo_S512x16x8x32x128_S512x16x8x128_d3 h_S_) main_v22 main_c_0
  let main_c_1 : IVec S_ 32 := constantI S_ 32 5#32
  let main_v24 : IVec S512x16x8x128 32 := broadcastInDim S512x16x8x128 ![] bcast_S_S512x16x8x128 main_c_1
  let main_v25 : IVec S512x16x8x128 1 := cmpi .sle main_v23 main_v24
  let main_c_2 : IVec S_ 1 := constantI S_ 1 1#1
  let main_v26 : IVec S512x16 1 := (fun x v => Host.reduce IntOp.andi x v reducesTo_S512x16x8x128_S512x16_d2_3 h_S_) main_v25 main_c_2
  let main_v27 : IVec S512x16 1 := andi main_v15 main_v26
  main_v27

def fn {F : FTy → Type} [FloatOps F] (main_arg0 : FVec F S512x32768 .bf16) : IVec S512x16 1 :=
  let main_v0 : FVec F S512x32768 .f32 := (extf .f32 · bitsLt_bf16_f32) main_arg0
  let main_v1 : FVec F S512x32768 .f32 := Host.negf main_v0
  let main_v2 : IVec S512x32768 32 := fn_argsort (F := F) main_v1
  let main_v3 : IVec S512x16 32 := (extractStridedSlice S512x16 ![0, 0] · slices_S512x32768_S512x16_0_0) main_v2
  let main_v4 : FVec F S512x16 .f32 := fn_take_along_axis (F := F) main_v0 main_v3
  let main_v5 : IVec S512x16x15 32 := iotaInDim S512x16x15 32 2
  let main_v6 : IVec S512x16x15 32 := iotaInDim S512x16x15 32 1
  let main_v7 : FVec F S512x15 .f32 := (extractStridedSlice S512x15 ![0, 0] · slices_S512x16_S512x15_0_0) main_v4
  let main_v8 : FVec F S512x1x15 .f32 := broadcastInDim S512x1x15 ![0, 2] bcast_S512x15_S512x1x15_0_2 main_v7
  let main_v9 : FVec F S512x15 .f32 := (extractStridedSlice S512x15 ![0, 1] · slices_S512x16_S512x15_0_1) main_v4
  let main_v10 : FVec F S512x1x15 .f32 := broadcastInDim S512x1x15 ![0, 2] bcast_S512x15_S512x1x15_0_2 main_v9
  let main_v11 : IVec S512x1x15 1 := cmpf .ogt main_v8 main_v10
  let main_v12 : IVec S512x16x15 1 := cmpi .sge main_v5 main_v6
  let main_v13 : IVec S512x16x15 1 := broadcastInDim S512x16x15 ![0, 1, 2] bcast_S512x1x15_S512x16x15_0_1_2 main_v11
  let main_v14 : IVec S512x16x15 1 := ori main_v13 main_v12
  let main_c : IVec S_ 1 := constantI S_ 1 1#1
  let main_v15 : IVec S512x16 1 := (fun x v => Host.reduce IntOp.andi x v reducesTo_S512x16x15_S512x16_d2 h_S_) main_v14 main_c
  let main_v16 : FVec F S512x32768 .f32 := (extf .f32 · bitsLt_bf16_f32) main_arg0
  let main_v17 : FVec F S512x1x8x32x128 .f32 := shapeCast S512x1x8x32x128 main_v16 shapeCasts_S512x32768_S512x1x8x32x128
  let main_v18 : FVec F S512x16x1x1x1 .f32 := broadcastInDim S512x16x1x1x1 ![0, 1] bcast_S512x16_S512x16x1x1x1_0_1 main_v4
  let main_v19 : FVec F S512x16x8x32x128 .f32 := broadcastInDim S512x16x8x32x128 ![0, 1, 2, 3, 4] bcast_S512x1x8x32x128_S512x16x8x32x128_0_1_2_3_4 main_v17
  let main_v20 : FVec F S512x16x8x32x128 .f32 := broadcastInDim S512x16x8x32x128 ![0, 1, 2, 3, 4] bcast_S512x16x1x1x1_S512x16x8x32x128_0_1_2_3_4 main_v18
  let main_v21 : IVec S512x16x8x32x128 1 := cmpf .oge main_v19 main_v20
  let main_v22 : IVec S512x16x8x32x128 32 := (extui 32 · natLt_1_32) main_v21
  fn_part1 (F := F) main_v15 main_v22
-- ==== Kernel.lean ====
abbrev S512x4096 : Shape := ⟨2, ![512, 4096]⟩
abbrev S512x16 : Shape := ⟨2, ![512, 16]⟩
abbrev S8x512x16 : Shape := ⟨3, ![8, 512, 16]⟩
abbrev S8 : Shape := ⟨1, ![8]⟩
abbrev S_ : Shape := ⟨0, ![]⟩
abbrev S512x128 : Shape := ⟨2, ![512, 128]⟩
abbrev S512 : Shape := ⟨1, ![512]⟩
abbrev S512x1 : Shape := ⟨2, ![512, 1]⟩
abbrev S1x512x16 : Shape := ⟨3, ![1, 512, 16]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .bf16⟩
  | .hbm, ⟨1, _⟩ => ⟨S512x16, .f32⟩
  | .local _ .vmem, ⟨0, _⟩ => ⟨S512x4096, .bf16⟩
  | .local _ .vmem, ⟨1, _⟩ => ⟨S512x16, .f32⟩
  | .local _ .vmem, ⟨2, _⟩ => ⟨S8x512x16, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v568 : Index := Scalar.indexCast v2
  let c0_60 : Index := 0#32
  let c0_61 : Index := 0#32
  ![v568.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_67 : BitVec 32 := 0#32
  let c0_i32_68 : BitVec 32 := 0#32
  ![v2.toNat, 0, 0]
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_62 : BitVec 32 := 1#32
  let v572 : BitVec 32 := Scalar.addi v2 c1_i32_62
  let c8_i32_63 : BitVec 32 := 8#32
  let v573 : BitVec 32 := Scalar.remsi v572 c8_i32_63
  let c1_i32_65 : BitVec 32 := 1#32
  let v574 : BitVec 32 := Scalar.muli v573 c1_i32_65
  let v575 : BitVec 32 := Scalar.addi c0_i32_66 v574
  v575.toNat
def k0_dev9 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_71 : BitVec 32 := 2#32
  let v584 : BitVec 32 := Scalar.addi v2 c2_i32_71
  let c8_i32_72 : BitVec 32 := 8#32
  let v585 : BitVec 32 := Scalar.remsi v584 c8_i32_72
  let c1_i32_74 : BitVec 32 := 1#32
  let v586 : BitVec 32 := Scalar.muli v585 c1_i32_74
  let v587 : BitVec 32 := Scalar.addi c0_i32_75 v586
  v587.toNat
def k0_dev10 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v596 : BitVec 32 := Scalar.addi v2 c3_i32_80
  let c8_i32_81 : BitVec 32 := 8#32
  let v597 : BitVec 32 := Scalar.remsi v596 c8_i32_81
  let c1_i32_83 : BitVec 32 := 1#32
  let v598 : BitVec 32 := Scalar.muli v597 c1_i32_83
  let v599 : BitVec 32 := Scalar.addi c0_i32_84 v598
  v599.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_89 : BitVec 32 := 4#32
  let v608 : BitVec 32 := Scalar.addi v2 c4_i32_89
  let c8_i32_90 : BitVec 32 := 8#32
  let v609 : BitVec 32 := Scalar.remsi v608 c8_i32_90
  let c1_i32_92 : BitVec 32 := 1#32
  let v610 : BitVec 32 := Scalar.muli v609 c1_i32_92
  let v611 : BitVec 32 := Scalar.addi c0_i32_93 v610
  v611.toNat
def k0_dev12 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_98 : BitVec 32 := 5#32
  let v620 : BitVec 32 := Scalar.addi v2 c5_i32_98
  let c8_i32_99 : BitVec 32 := 8#32
  let v621 : BitVec 32 := Scalar.remsi v620 c8_i32_99
  let c1_i32_101 : BitVec 32 := 1#32
  let v622 : BitVec 32 := Scalar.muli v621 c1_i32_101
  let v623 : BitVec 32 := Scalar.addi c0_i32_102 v622
  v623.toNat
def k0_dev13 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_107 : BitVec 32 := 6#32
  let v632 : BitVec 32 := Scalar.addi v2 c6_i32_107
  let c8_i32_108 : BitVec 32 := 8#32
  let v633 : BitVec 32 := Scalar.remsi v632 c8_i32_108
  let c1_i32_110 : BitVec 32 := 1#32
  let v634 : BitVec 32 := Scalar.muli v633 c1_i32_110
  let v635 : BitVec 32 := Scalar.addi c0_i32_111 v634
  v635.toNat
def k0_dev14 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v644 : BitVec 32 := Scalar.addi v2 c7_i32_116
  let c8_i32_117 : BitVec 32 := 8#32
  let v645 : BitVec 32 := Scalar.remsi v644 c8_i32_117
  let c1_i32_119 : BitVec 32 := 1#32
  let v646 : BitVec 32 := Scalar.muli v645 c1_i32_119
  let v647 : BitVec 32 := Scalar.addi c0_i32_120 v646
  v647.toNat
def k0_off4 (d0 : Dev nD) (c1_i32_125 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v656 : BitVec 32 := Scalar.addi v2 c1_i32_125
  let c8_i32_126 : BitVec 32 := 8#32
  let v657 : BitVec 32 := Scalar.remsi v656 c8_i32_126
  ![v657.toNat]
def k0_off5 (d0 : Dev nD) (c1_i32_125 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v656 : BitVec 32 := Scalar.addi v2 c1_i32_125
  let c8_i32_126 : BitVec 32 := 8#32
  let v657 : BitVec 32 := Scalar.remsi v656 c8_i32_126
  let c0_i32_130 : BitVec 32 := 0#32
  let c0_i32_131 : BitVec 32 := 0#32
  ![v657.toNat, 0, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x32768 : Shape := ⟨2, ![512, 32768]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S512x32768, .bf16⟩
  | .hbm, ⟨1, _⟩ => ⟨S512x32768, .f32⟩
  | .hbm, ⟨2, _⟩ => ⟨S512x32768, .f32⟩
  | .hbm, ⟨3, _⟩ => ⟨S512x32768, .i32⟩
  | .hbm, ⟨4, _⟩ => ⟨S512x32768, .f32⟩
  | .hbm, ⟨5, _⟩ => ⟨S512x32768, .i32⟩
  | .hbm, ⟨6, _⟩ => ⟨S512x16, .i32⟩
  | .hbm, ⟨7, _⟩ => ⟨S_, .i32⟩
  | .hbm, ⟨8, _⟩ => ⟨S512x16, .i32⟩
  | .hbm, ⟨9, _⟩ => ⟨S512x16, .i1⟩
  | .hbm, ⟨10, _⟩ => ⟨S_, .i32⟩
  | .hbm, ⟨11, _⟩ => ⟨S512x16, .i32⟩
  | .hbm, ⟨12, _⟩ => ⟨S512x16, .i32⟩
  | .hbm, ⟨13, _⟩ => ⟨S512x16, .i32⟩
  | .hbm, ⟨14, _⟩ => ⟨S512x16x1, .i32⟩
  | .hbm, ⟨15, _⟩ => ⟨S1, .i32⟩
  | .hbm, ⟨16, _⟩ => ⟨S_, .i32⟩
  | .hbm, ⟨17, _⟩ => ⟨S512x16x1, .i32⟩
  | .hbm, ⟨18, _⟩ => ⟨S512x16x1, .i1⟩
  | .hbm, ⟨19, _⟩ => ⟨S1x1x1, .i32⟩
  | .hbm, ⟨20, _⟩ => ⟨S512x16x1, .i32⟩
  | .hbm, ⟨21, _⟩ => ⟨S512x16x1, .i1⟩
  | .hbm, ⟨22, _⟩ => ⟨S512x16x1, .i1⟩
  | .hbm, ⟨23, _⟩ => ⟨S_, .i1⟩
  | .hbm, ⟨24, _⟩ => ⟨S512x16, .i1⟩
  | .hbm, ⟨25, _⟩ => ⟨S512x16, .f32⟩
  | .hbm, ⟨26, _⟩ => ⟨S_, .f32⟩
  | .hbm, ⟨27, _⟩ => ⟨S512x16, .f32⟩
  | .hbm, ⟨28, _⟩ => ⟨S512x16, .f32⟩
  | _, _ => ⟨S512x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Locals.lean ====
/-
# The values the kernel's body computes, named

Between its memory operations the body is straight-line arithmetic. Each value that one stretch of the body passes to the
next is named here as a function of the memory it was computed from: `wN x` (from the device's block `x`) and `zN y` (from
the eight slots `y`), `N` the value's number in the body. `partN_eq` says that a stretch without memory operations returns
the named values.
-/
module

public import proofs.«01_k».proof.Proof.Gen.KernelIdeal.Skeleton

@[expose] public section

set_option maxRecDepth 65536

noncomputable section

namespace Cert.TopK

open Cert.KernelIdeal Cert.KernelIdeal.Gen
open Idealize.ShloMosaic Idealize.ShloMosaic.TcCoe Idealize.ShloMosaic.FloatOps

variable {F : FTy → Type} [FloatOps F]

def w114 (x : Vec F S512x4096 .bf16) : FVec F S512x128 .bf16 :=
  k0_pay65 (k0_pay2 x) (k0_pay3 x) (k0_pay4 x) (k0_pay5 x) (k0_pay6 x) (k0_pay7 x)

def w117 (x : Vec F S512x4096 .bf16) : FVec F S512x128 .f32 :=
  k0_pay67 (k0_pay2 x) (k0_pay3 x) (k0_pay4 x) (k0_pay5 x) (k0_pay6 x) (k0_pay7 x) (k0_pay34 (F := F))

def w120 (x : Vec F S512x4096 .bf16) : FVec F S512x128 .f32 :=
  k0_pay69 (k0_pay2 x) (k0_pay3 x) (k0_pay4 x) (k0_pay5 x) (k0_pay6 x) (k0_pay7 x) (k0_pay34 (F := F)) (k0_pay35 (F := F))

def w122 (x : Vec F S512x4096 .bf16) : FVec F S512x128 .f32 :=
  k0_pay71 (k0_pay2 x) (k0_pay3 x) (k0_pay4 x) (k0_pay5 x) (k0_pay6 x) (k0_pay7 x) (k0_pay34 (F := F)) (k0_pay35 (F := F))

def w124 (x : Vec F S512x4096 .bf16) : FVec F S512x128 .f32 :=
  k0_pay72 (k0_pay2 x) (k0_pay3 x) (k0_pay4 x) (k0_pay5 x) (k0_pay6 x) (k0_pay7 x) (k0_pay34 (F := F)) (k0_pay35 (F := F))

def w125 (x : Vec F S512x4096 .bf16) : FVec F S512x128 .bf16 :=
  k0_pay73 (k0_pay2 x) (k0_pay3 x) (k0_pay4 x) (k0_pay5 x) (k0_pay6 x) (k0_pay7 x) (k0_pay8 x)

def w175 (x : Vec F S512x4096 .bf16) : FVec F S512x128 .f32 :=
  k0_pay105 (k0_pay8 x) (k0_pay9 x) (k0_pay10 x) (k0_pay11 x) (k0_pay12 x) (w114 x) (w117 x) (w120 x) (w125 x)

def w177 (x : Vec F S512x4096 .bf16) : FVec F S512x128 .f32 :=
  k0_pay107 (k0_pay8 x) (k0_pay9 x) (k0_pay10 x) (k0_pay11 x) (k0_pay12 x) (w114 x) (w117 x) (w120 x) (w122 x) (w125 x)

def w179 (x : Vec F S512x4096 .bf16) : FVec F S512x128 .f32 :=
  k0_pay108 (k0_pay8 x) (k0_pay9 x) (k0_pay10 x) (k0_pay11 x) (k0_pay12 x) (w114 x) (w117 x) (w120 x) (w122 x) (w124 x) (w125 x)

def w180 (x : Vec F S512x4096 .bf16) : FVec F S512x128 .bf16 :=
  k0_pay109 (k0_pay9 x) (k0_pay10 x) (k0_pay11 x) (k0_pay12 x) (k0_pay13 x) (w125 x)

def w183 (x : Vec F S512x4096 .bf16) : FVec F S512x128 .f32 :=
  k0_pay111 (k0_pay8 x) (k0_pay9 x) (k0_pay10 x) (k0_pay11 x) (k0_pay12 x) (k0_pay13 x) (w114 x) (w117 x) (w125 x)

def w185 (x : Vec F S512x4096 .bf16) : FVec F S512x128 .f32 :=
  k0_pay112 (k0_pay8 x) (k0_pay9 x) (k0_pay10 x) (k0_pay11 x) (k0_pay12 x) (k0_pay13 x) (w114 x) (w117 x) (w125 x)

def w235 (x : Vec F S512x4096 .bf16) : FVec F S512x128 .bf16 :=
  k0_pay144 (k0_pay14 x) (k0_pay15 x) (k0_pay16 x) (k0_pay17 x) (k0_pay18 x) (w180 x)

def w238 (x : Vec F S512x4096 .bf16) : FVec F S512x128 .f32 :=
  k0_pay146 (k0_pay14 x) (k0_pay15 x) (k0_pay16 x) (k0_pay17 x) (k0_pay18 x) (w180 x) (w183 x)

def w241 (x : Vec F S512x4096 .bf16) : FVec F S512x128 .f32 :=
  k0_pay148 (k0_pay14 x) (k0_pay15 x) (k0_pay16 x) (k0_pay17 x) (k0_pay18 x) (w175 x) (w180 x) (w183 x) (w185 x)

def w243 (x : Vec F S512x4096 .bf16) : FVec F S512x128 .f32 :=
  k0_pay150 (k0_pay14 x) (k0_pay15 x) (k0_pay16 x) (k0_pay17 x) (k0_pay18 x) (w175 x) (w177 x) (w180 x) (w183 x) (w185 x)

def w245 (x : Vec F S512x4096 .bf16) : FVec F S512x128 .f32 :=
  k0_pay151 (k0_pay14 x) (k0_pay15 x) (k0_pay16 x) (k0_pay17 x) (k0_pay18 x) (w175 x) (w177 x) (w179 x) (w180 x) (w183 x) (w185 x)

def w293 (x : Vec F S512x4096 .bf16) : FVec F S512x128 .f32 :=
  k0_pay182 (k0_pay19 x) (k0_pay20 x) (k0_pay21 x) (k0_pay22 x) (k0_pay23 x) (w235 x) (w238 x)

def w296 (x : Vec F S512x4096 .bf16) : FVec F S512x128 .f32 :=
  k0_pay184 (k0_pay19 x) (k0_pay20 x) (k0_pay21 x) (k0_pay22 x) (k0_pay23 x) (w235 x) (w238 x) (w241 x)

def w298 (x : Vec F S512x4096 .bf16) : FVec F S512x128 .f32 :=
  k0_pay186 (k0_pay19 x) (k0_pay20 x) (k0_pay21 x) (k0_pay22 x) (k0_pay23 x) (w235 x) (w238 x) (w241 x) (w243 x)

def w300 (x : Vec F S512x4096 .bf16) : FVec F S512x128 .f32 :=
  k0_pay187 (k0_pay19 x) (k0_pay20 x) (k0_pay21 x) (k0_pay22 x) (k0_pay23 x) (w235 x) (w238 x) (w241 x) (w243 x) (w245 x)

def w301 (x : Vec F S512x4096 .bf16) : FVec F S512x128 .bf16 :=
  k0_pay188 (k0_pay19 x) (k0_pay20 x) (k0_pay21 x) (k0_pay22 x) (k0_pay23 x) (k0_pay24 x) (w235 x)

def w304 (x : Vec F S512x4096 .bf16) : FVec F S512x128 .f32 :=
  k0_pay190 (k0_pay19 x) (k0_pay20 x) (k0_pay21 x) (k0_pay22 x) (k0_pay23 x) (k0_pay24 x) (w235 x) (w238 x)

def w305 (x : Vec F S512x4096 .bf16) : FVec F S512x128 .f32 :=
  k0_pay191 (k0_pay19 x) (k0_pay20 x) (k0_pay21 x) (k0_pay22 x) (k0_pay23 x) (k0_pay24 x) (w235 x)

def w355 (x : Vec F S512x4096 .bf16) : FVec F S512x128 .f32 :=
  k0_pay224 (k0_pay25 x) (k0_pay26 x) (k0_pay27 x) (k0_pay28 x) (w293 x) (w296 x) (w298 x) (w300 x) (w301 x) (w304 x) (w305 x)

def w356 (x : Vec F S512x4096 .bf16) : FVec F S512x128 .bf16 :=
  k0_pay225 (k0_pay25 x) (k0_pay26 x) (k0_pay27 x) (k0_pay28 x) (k0_pay29 x) (w301 x)

def w359 (x : Vec F S512x4096 .bf16) : FVec F S512x128 .f32 :=
  k0_pay227 (k0_pay25 x) (k0_pay26 x) (k0_pay27 x) (k0_pay28 x) (k0_pay29 x) (w301 x) (w304 x)

def w362 (x : Vec F S512x4096 .bf16) : FVec F S512x128 .f32 :=
  k0_pay229 (k0_pay25 x) (k0_pay26 x) (k0_pay27 x) (k0_pay28 x) (k0_pay29 x) (w293 x) (w296 x) (w301 x) (w304 x) (w305 x)

def w364 (x : Vec F S512x4096 .bf16) : FVec F S512x128 .f32 :=
  k0_pay231 (k0_pay25 x) (k0_pay26 x) (k0_pay27 x) (k0_pay28 x) (k0_pay29 x) (w293 x) (w296 x) (w298 x) (w301 x) (w304 x) (w305 x)

def w365 (x : Vec F S512x4096 .bf16) : FVec F S512x128 .f32 :=
  k0_pay232 (k0_pay25 x) (k0_pay26 x) (k0_pay27 x) (k0_pay28 x) (k0_pay29 x) (w293 x) (w296 x) (w298 x) (w301 x) (w304 x) (w305 x)

def w411 (x : Vec F S512x4096 .bf16) : FVec F S512 .bf16 :=
  k0_pay262 (k0_pay30 x) (k0_pay31 x) (k0_pay32 x) (k0_pay33 x) (w356 x)

def w416 (x : Vec F S512x4096 .bf16) : FVec F S512x128 .f32 :=
  k0_pay264 (k0_pay30 x) (k0_pay31 x) (k0_pay32 x) (k0_pay33 x) (w356 x) (w359 x)

def w417 (x : Vec F S512x4096 .bf16) : FVec F S512x128 .f32 :=
  k0_pay265 (k0_pay30 x) (k0_pay31 x) (k0_pay32 x) (k0_pay33 x) (w356 x) (w359 x) (w362 x)

def w418 (x : Vec F S512x4096 .bf16) : FVec F S512x128 .f32 :=
  k0_pay266 (k0_pay30 x) (k0_pay31 x) (k0_pay32 x) (k0_pay33 x) (w356 x) (w359 x) (w362 x) (w364 x)

def w419 (x : Vec F S512x4096 .bf16) : FVec F S512x128 .f32 :=
  k0_pay267 (k0_pay30 x) (k0_pay31 x) (k0_pay32 x) (k0_pay33 x) (w355 x) (w356 x) (w359 x) (w362 x) (w364 x) (w365 x)

def w421 (x : Vec F S512x4096 .bf16) : FVec F S512x128 .f32 :=
  k0_pay268 (k0_pay30 x) (k0_pay31 x) (k0_pay32 x) (k0_pay33 x) (w355 x) (w356 x) (w359 x) (w362 x) (w364 x) (w365 x)

def w422 (x : Vec F S512x4096 .bf16) : FVec F S512 .f32 :=
  k0_pay269 (k0_pay30 x) (k0_pay31 x) (k0_pay32 x) (k0_pay33 x) (w356 x) (w359 x)

def w432 (x : Vec F S512x4096 .bf16) : FVec F S512 .f32 :=
  k0_pay276 (w416 x) (w417 x) (w422 x)

def w442 (x : Vec F S512x4096 .bf16) : FVec F S512 .f32 :=
  k0_pay283 (w416 x) (w417 x) (w418 x) (w422 x)

def w452 (x : Vec F S512x4096 .bf16) : FVec F S512 .f32 :=
  k0_pay290 (w416 x) (w417 x) (w418 x) (w419 x) (w422 x)

def w462 (x : Vec F S512x4096 .bf16) : FVec F S512 .f32 :=
  k0_pay297 (w416 x) (w417 x) (w418 x) (w419 x) (w421 x) (w422 x)

def w466 (x : Vec F S512x4096 .bf16) : FVec F S512x128 .f32 :=
  k0_pay299 (w416 x) (w417 x) (w418 x) (w419 x) (w421 x) (w422 x)

def w467 (x : Vec F S512x4096 .bf16) : FVec F S512x128 .f32 :=
  k0_pay300 (w416 x) (w417 x) (w418 x) (w419 x) (w421 x) (w422 x)

def w468 (x : Vec F S512x4096 .bf16) : FVec F S512x128 .f32 :=
  k0_pay301 (w416 x) (w417 x) (w418 x) (w419 x) (w421 x) (w422 x)

def w469 (x : Vec F S512x4096 .bf16) : FVec F S512x128 .f32 :=
  k0_pay302 (w416 x) (w417 x) (w418 x) (w419 x) (w421 x) (w422 x)

def w471 (x : Vec F S512x4096 .bf16) : FVec F S512x128 .f32 :=
  k0_pay303 (w416 x) (w417 x) (w418 x) (w419 x) (w421 x) (w422 x)

def w472 (x : Vec F S512x4096 .bf16) : FVec F S512 .f32 :=
  k0_pay304 (w416 x) (w417 x) (w418 x) (w419 x) (w421 x) (w422 x)

def w482 (x : Vec F S512x4096 .bf16) : FVec F S512 .f32 :=
  k0_pay311 (w466 x) (w467 x) (w472 x)

def w492 (x : Vec F S512x4096 .bf16) : FVec F S512 .f32 :=
  k0_pay318 (w466 x) (w467 x) (w468 x) (w472 x)

def w502 (x : Vec F S512x4096 .bf16) : FVec F S512 .f32 :=
  k0_pay325 (w466 x) (w467 x) (w468 x) (w469 x) (w472 x)

def w512 (x : Vec F S512x4096 .bf16) : FVec F S512 .f32 :=
  k0_pay332 (w466 x) (w467 x) (w468 x) (w469 x) (w471 x) (w472 x)

def w516 (x : Vec F S512x4096 .bf16) : FVec F S512x128 .f32 :=
  k0_pay334 (w466 x) (w467 x) (w468 x) (w469 x) (w471 x) (w472 x)

def w517 (x : Vec F S512x4096 .bf16) : FVec F S512x128 .f32 :=
  k0_pay335 (w466 x) (w467 x) (w468 x) (w469 x) (w471 x) (w472 x)

def w518 (x : Vec F S512x4096 .bf16) : FVec F S512x128 .f32 :=
  k0_pay336 (w466 x) (w467 x) (w468 x) (w469 x) (w471 x) (w472 x)

def w519 (x : Vec F S512x4096 .bf16) : FVec F S512x128 .f32 :=
  k0_pay337 (w466 x) (w467 x) (w468 x) (w469 x) (w471 x) (w472 x)

def w521 (x : Vec F S512x4096 .bf16) : FVec F S512x128 .f32 :=
  k0_pay338 (w466 x) (w467 x) (w468 x) (w469 x) (w471 x) (w472 x)

def w522 (x : Vec F S512x4096 .bf16) : FVec F S512 .f32 :=
  k0_pay339 (w466 x) (w467 x) (w468 x) (w469 x) (w471 x) (w472 x)

/-- The sixteen values per row that a device whose block is `x` puts in its slot. -/
def locV (x : Vec F S512x4096 .bf16) : Vec F S1x512x16 .f32 :=
  k0_pay340 (w411 x) (w422 x) (w432 x) (w442 x) (w452 x) (w462 x) (w472 x) (w482 x) (w492 x) (w502 x) (w512 x) (w516 x) (w517 x) (w518 x) (w519 x) (w521 x) (w522 x)

def z743 (y : Vec F S8x512x16 .f32) : FVec F S512x128 .f32 :=
  k0_pay344 y (k0_pay341 y) (k0_pay342 y) (k0_pay343 y)

def z744 (y : Vec F S8x512x16 .f32) : FVec F S512 .f32 :=
  k0_pay345 y (k0_pay341 y) (k0_pay342 y) (k0_pay343 y)

def z750 (y : Vec F S8x512x16 .f32) : FVec F S512 .f32 :=
  k0_pay346 y (k0_pay341 y) (k0_pay342 y) (k0_pay343 y)

def z756 (y : Vec F S8x512x16 .f32) : FVec F S512 .f32 :=
  k0_pay347 y (k0_pay341 y) (k0_pay342 y) (k0_pay343 y)

def z762 (y : Vec F S8x512x16 .f32) : FVec F S512 .f32 :=
  k0_pay348 y (k0_pay341 y) (k0_pay342 y) (k0_pay343 y)

def z768 (y : Vec F S8x512x16 .f32) : FVec F S512 .f32 :=
  k0_pay349 y (k0_pay341 y) (k0_pay342 y) (k0_pay343 y)

def z774 (y : Vec F S8x512x16 .f32) : FVec F S512 .f32 :=
  k0_pay350 y (k0_pay341 y) (k0_pay342 y) (k0_pay343 y)

def z779 (y : Vec F S8x512x16 .f32) : FVec F S512x128 .f32 :=
  k0_pay351 y (k0_pay341 y) (k0_pay342 y) (k0_pay343 y)

def z780 (y : Vec F S8x512x16 .f32) : FVec F S512 .f32 :=
  k0_pay352 (z779 y)

def z786 (y : Vec F S8x512x16 .f32) : FVec F S512 .f32 :=
  k0_pay353 (z743 y) (z779 y)

def z792 (y : Vec F S8x512x16 .f32) : FVec F S512 .f32 :=
  k0_pay354 (z743 y) (z779 y)

def z798 (y : Vec F S8x512x16 .f32) : FVec F S512 .f32 :=
  k0_pay355 (z743 y) (z779 y)

def z804 (y : Vec F S8x512x16 .f32) : FVec F S512 .f32 :=
  k0_pay356 (z743 y) (z779 y)

def z810 (y : Vec F S8x512x16 .f32) : FVec F S512 .f32 :=
  k0_pay357 (z743 y) (z779 y)

def z816 (y : Vec F S8x512x16 .f32) : FVec F S512 .f32 :=
  k0_pay358 (z743 y) (z779 y)

def z822 (y : Vec F S8x512x16 .f32) : FVec F S512 .f32 :=
  k0_pay359 (z743 y) (z779 y)

def z825 (y : Vec F S8x512x16 .f32) : IVec S512x128 1 :=
  k0_pay360 (z743 y) (z779 y)

/-- What a device writes out, from the eight slots `y`. -/
def outV (y : Vec F S8x512x16 .f32) : FVec F S512x16 .f32 :=
  k0_pay361 (z743 y) (z744 y) (z750 y) (z756 y) (z762 y) (z768 y) (z774 y) (z780 y) (z786 y) (z792 y) (z798 y) (z804 y) (z810 y) (z816 y) (z822 y) (z825 y)

section Parts

variable (arg0 : Memref sig .tc .vmem S512x4096 .bf16) (harg0 : arg0.IsWhole) (arg1 : Memref sig .tc .vmem S512x16 .f32) (harg1 : arg1.IsWhole)
  (arg2 : Memref sig .tc .vmem S8x512x16 .f32) (harg2 : arg2.IsWhole) (arg3 : DmaSems sig S8) (arg4 : DmaSems sig S8)

section X
variable (x : Vec F S512x4096 .bf16)

theorem part3_eq : k0_part3 arg0 harg0 arg1 harg1 arg2 harg2 arg3 arg4 (k0_pay2 x) (k0_pay3 x) (k0_pay4 x) (k0_pay5 x) (k0_pay6 x) (k0_pay7 x) (k0_pay8 x) (k0_pay34 (F := F)) (k0_pay35 (F := F))
    = .ret ⟨w114 x, w117 x, w120 x, w122 x, w124 x, w125 x⟩ := by
  rw [k0_part3_eq_skeleton]; rfl

theorem part4_eq : k0_part4 arg0 harg0 arg1 harg1 arg2 harg2 arg3 arg4 (k0_pay8 x) (k0_pay9 x) (k0_pay10 x) (k0_pay11 x) (k0_pay12 x) (k0_pay13 x) (w114 x) (w117 x) (w120 x) (w122 x) (w124 x) (w125 x)
    = .ret ⟨w175 x, w177 x, w179 x, w180 x, w183 x, w185 x⟩ := by
  rw [k0_part4_eq_skeleton]; rfl

theorem part5_eq : k0_part5 arg0 harg0 arg1 harg1 arg2 harg2 arg3 arg4 (k0_pay14 x) (k0_pay15 x) (k0_pay16 x) (k0_pay17 x) (k0_pay18 x) (w175 x) (w177 x) (w179 x) (w180 x) (w183 x) (w185 x)
    = .ret ⟨w235 x, w238 x, w241 x, w243 x, w245 x⟩ := by
  rw [k0_part5_eq_skeleton]; rfl

theorem part6_eq : k0_part6 arg0 harg0 arg1 harg1 arg2 harg2 arg3 arg4 (k0_pay19 x) (k0_pay20 x) (k0_pay21 x) (k0_pay22 x) (k0_pay23 x) (k0_pay24 x) (w235 x) (w238 x) (w241 x) (w243 x) (w245 x)
    = .ret ⟨w293 x, w296 x, w298 x, w300 x, w301 x, w304 x, w305 x⟩ := by
  rw [k0_part6_eq_skeleton]; rfl

theorem part7_eq : k0_part7 arg0 harg0 arg1 harg1 arg2 harg2 arg3 arg4 (k0_pay25 x) (k0_pay26 x) (k0_pay27 x) (k0_pay28 x) (k0_pay29 x) (w293 x) (w296 x) (w298 x) (w300 x) (w301 x) (w304 x) (w305 x)
    = .ret ⟨w355 x, w356 x, w359 x, w362 x, w364 x, w365 x⟩ := by
  rw [k0_part7_eq_skeleton]; rfl

theorem part8_eq : k0_part8 arg0 harg0 arg1 harg1 arg2 harg2 arg3 arg4 (k0_pay30 x) (k0_pay31 x) (k0_pay32 x) (k0_pay33 x) (w355 x) (w356 x) (w359 x) (w362 x) (w364 x) (w365 x)
    = .ret ⟨w411 x, w416 x, w417 x, w418 x, w419 x, w421 x, w422 x⟩ := by
  rw [k0_part8_eq_skeleton]; rfl

theorem part9_eq : k0_part9 arg0 harg0 arg1 harg1 arg2 harg2 arg3 arg4 (w416 x) (w417 x) (w418 x) (w419 x) (w421 x) (w422 x)
    = .ret ⟨w432 x, w442 x, w452 x, w462 x, w466 x, w467 x, w468 x, w469 x, w471 x, w472 x⟩ := by
  rw [k0_part9_eq_skeleton]; rfl

theorem part10_eq : k0_part10 arg0 harg0 arg1 harg1 arg2 harg2 arg3 arg4 (w466 x) (w467 x) (w468 x) (w469 x) (w471 x) (w472 x)
    = .ret ⟨w482 x, w492 x, w502 x, w512 x, w516 x, w517 x, w518 x, w519 x, w521 x, w522 x⟩ := by
  rw [k0_part10_eq_skeleton]; rfl

end X

section Y
variable (y : Vec F S8x512x16 .f32)

theorem part17_eq : k0_part17 arg0 harg0 arg1 harg1 arg2 harg2 arg3 arg4 y (k0_pay341 y) (k0_pay342 y) (k0_pay343 y)
    = .ret ⟨z743 y, z744 y, z750 y, z756 y, z762 y, z768 y, z774 y, z779 y⟩ := by
  rw [k0_part17_eq_skeleton]; rfl

theorem part18_eq : k0_part18 arg0 harg0 arg1 harg1 arg2 harg2 arg3 arg4 (z743 y) (z779 y)
    = .ret ⟨z780 y, z786 y, z792 y, z798 y, z804 y, z810 y, z816 y, z822 y, z825 y⟩ := by
  rw [k0_part18_eq_skeleton]; rfl

end Y

end Parts

end Cert.TopK

end
-- ==== Proof.Common.lean ====
/-
# The exchange: devices, cells, slots and the schedule

Eight devices each hold a block of the argument. Every device computes sixteen values per row from its block, puts them in
its own slot of an 8-slot buffer, copies that slot to the same slot of each of the other seven devices, waits for the seven
copies addressed to it and then works on all eight slots.

The protocol, one round per semaphore:

* the barrier semaphore of device `p` has a duty per other device `d`, of one unit; with it `d` hands `p` the slot `p` of
  `d`'s own buffer, so that `p` may later write there. `p` waits for seven units.
* the receive semaphore `s` of device `c` has one duty, paid by the copy from device `s`; it hands `c` its slot `s` with the
  sixteen values per row of device `s` in it.
* the send semaphore of device `c` for peer `s` has one duty, paid by the same copy leaving; it hands back the share of
  `c`'s own slot that the copy read through.
-/
module

public import proofs.«01_k».proof.Proof.Locals
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Transfers
public import Idealize.ShloMosaic.Lib.ValueIdxCore

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's own copy of the rounds algebra; a duty is named by a device. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Devices around the ring -/

/-- The device `o` places after `c`. -/
def pr (c : Dev nD) (o : ℕ) : Dev nD := ⟨(c.val + o) % 8, Nat.mod_lt _ (by decide)⟩
/-- How many places after `c` the device `s` lies. -/
def off (c s : Dev nD) : ℕ := (s.val + 8 - c.val) % 8

/-- The devices at least `j` places after `c`; -/
def ge (c : Dev nD) (j : ℕ) : Finset (Dev nD) := Finset.univ.filter fun s => j ≤ off c s
/-- those at least one and fewer than `j` places after it. -/
def lo (c : Dev nD) (j : ℕ) : Finset (Dev nD) := Finset.univ.filter fun s => 1 ≤ off c s ∧ off c s < j

theorem off_lt (c s : Dev nD) : off c s < 8 := Nat.mod_lt _ (by decide)
theorem off_inj (c s t : Dev nD) (h : off c s = off c t) : s = t := by
  have h1 := s.isLt; have h2 := t.isLt; have h3 := c.isLt
  simp only [nD] at h1 h2 h3
  unfold off at h; exact Fin.ext (by omega)
theorem off_pr (c : Dev nD) (o : ℕ) (ho : o < 8) : off c (pr c o) = o := by
  have h3 := c.isLt
  simp only [nD] at h3
  show ((c.val + o) % 8 + 8 - c.val) % 8 = o; omega
theorem pr_off (c s : Dev nD) : pr c (off c s) = s := off_inj c _ _ (off_pr c _ (off_lt c s))
theorem pr_ne (c : Dev nD) (o : ℕ) (h0 : 1 ≤ o) (ho : o < 8) : pr c o ≠ c := fun h => by
  have h1 := off_pr c o ho; rw [h] at h1
  have h3 := c.isLt
  simp only [nD] at h3
  unfold off at h1; omega
theorem off_pos (c s : Dev nD) : 1 ≤ off c s ↔ s ≠ c := by
  have h1 := s.isLt; have h3 := c.isLt
  simp only [nD] at h1 h3
  unfold off; rw [Ne, Fin.ext_iff]; omega

theorem ge_peel (c : Dev nD) (o : ℕ) (ho : o < 8) : ge c o = insert (pr c o) (ge c (o + 1)) := by
  ext s; simp only [ge, Finset.mem_filter, Finset.mem_univ, true_and, Finset.mem_insert]
  constructor
  · intro h
    rcases Nat.eq_or_lt_of_le h with h | h
    · exact .inl (off_inj c _ _ (by rw [off_pr c o ho, ← h]))
    · exact .inr h
  · rintro (rfl | h)
    · rw [off_pr c o ho]
    · omega
theorem ge_not_mem (c : Dev nD) (o : ℕ) (ho : o < 8) : pr c o ∉ ge c (o + 1) := by
  simp only [ge, Finset.mem_filter, Finset.mem_univ, true_and, off_pr c o ho]; omega
theorem lo_push (c : Dev nD) (o : ℕ) (h0 : 1 ≤ o) (ho : o < 8) : lo c (o + 1) = insert (pr c o) (lo c o) := by
  ext s; simp only [lo, Finset.mem_filter, Finset.mem_univ, true_and, Finset.mem_insert]
  constructor
  · rintro ⟨h1, h⟩
    rcases Nat.eq_or_lt_of_le (Nat.le_of_lt_succ h) with h | h
    · exact .inl (off_inj c _ _ (by rw [off_pr c o ho, ← h]))
    · exact .inr ⟨h1, h⟩
  · rintro (rfl | h)
    · rw [off_pr c o ho]; omega
    · omega
theorem lo_not_mem (c : Dev nD) (o : ℕ) (ho : o < 8) : pr c o ∉ lo c o := by
  simp only [lo, Finset.mem_filter, Finset.mem_univ, true_and, off_pr c o ho]; omega
theorem ge_eight (c : Dev nD) : ge c 8 = ∅ := Finset.filter_eq_empty_iff.mpr fun s _ => by have := off_lt c s; omega
theorem lo_one (c : Dev nD) : lo c 1 = ∅ := Finset.filter_eq_empty_iff.mpr fun s _ => by omega
theorem ge_one (c : Dev nD) : ge c 1 = Finset.univ.erase c := by
  ext s; simp only [ge, Finset.mem_filter, Finset.mem_univ, true_and, Finset.mem_erase, and_true, off_pos]
theorem lo_eight (c : Dev nD) : lo c 8 = Finset.univ.erase c := by
  ext s; simp only [lo, Finset.mem_filter, Finset.mem_univ, true_and, Finset.mem_erase, and_true, off_pos]
  exact ⟨fun h => h.1, fun h => ⟨h, off_lt c s⟩⟩

section Peel
variable {M : Type} [URA M]

theorem bigSep_ge_peel (c : Dev nD) (o : ℕ) (ho : o < 8) (Φ : Dev nD → sProp M) :
    bigSep (ge c o) Φ = iprop(Φ (pr c o) ∗ bigSep (ge c (o + 1)) Φ) := by
  rw [ge_peel c o ho, bigSep_insert (ge_not_mem c o ho)]; rfl
theorem bigSep_lo_push (c : Dev nD) (o : ℕ) (h0 : 1 ≤ o) (ho : o < 8) (Φ : Dev nD → sProp M) :
    bigSep (lo c (o + 1)) Φ = iprop(Φ (pr c o) ∗ bigSep (lo c o) Φ) := by
  rw [lo_push c o h0 ho, bigSep_insert (lo_not_mem c o ho)]; rfl
end Peel

/-- A device's copies and signals go to the devices one to seven places after it. -/
theorem dev1_eq (c : Dev nD) : (⟨k0_dev1 c, k0_dev1_lt c⟩ : Dev nD) = pr c 1 := Fin.ext (k0_dev1_eq c)
theorem dev2_eq (c : Dev nD) : (⟨k0_dev2 c, k0_dev2_lt c⟩ : Dev nD) = pr c 2 := Fin.ext (k0_dev2_eq c)
theorem dev3_eq (c : Dev nD) : (⟨k0_dev3 c, k0_dev3_lt c⟩ : Dev nD) = pr c 3 := Fin.ext (k0_dev3_eq c)
theorem dev4_eq (c : Dev nD) : (⟨k0_dev4 c, k0_dev4_lt c⟩ : Dev nD) = pr c 4 := Fin.ext (k0_dev4_eq c)
theorem dev5_eq (c : Dev nD) : (⟨k0_dev5 c, k0_dev5_lt c⟩ : Dev nD) = pr c 5 := Fin.ext (k0_dev5_eq c)
theorem dev6_eq (c : Dev nD) : (⟨k0_dev6 c, k0_dev6_lt c⟩ : Dev nD) = pr c 6 := Fin.ext (k0_dev6_eq c)
theorem dev7_eq (c : Dev nD) : (⟨k0_dev7 c, k0_dev7_lt c⟩ : Dev nD) = pr c 7 := Fin.ext (k0_dev7_eq c)
theorem dev8_eq (c : Dev nD) : (⟨k0_dev8 c, k0_dev8_lt c⟩ : Dev nD) = pr c 1 := Fin.ext (k0_dev8_eq c)
theorem dev9_eq (c : Dev nD) : (⟨k0_dev9 c, k0_dev9_lt c⟩ : Dev nD) = pr c 2 := Fin.ext (k0_dev9_eq c)
theorem dev10_eq (c : Dev nD) : (⟨k0_dev10 c, k0_dev10_lt c⟩ : Dev nD) = pr c 3 := Fin.ext (k0_dev10_eq c)
theorem dev11_eq (c : Dev nD) : (⟨k0_dev11 c, k0_dev11_lt c⟩ : Dev nD) = pr c 4 := Fin.ext (k0_dev11_eq c)
theorem dev12_eq (c : Dev nD) : (⟨k0_dev12 c, k0_dev12_lt c⟩ : Dev nD) = pr c 5 := Fin.ext (k0_dev12_eq c)
theorem dev13_eq (c : Dev nD) : (⟨k0_dev13 c, k0_dev13_lt c⟩ : Dev nD) = pr c 6 := Fin.ext (k0_dev13_eq c)
theorem dev14_eq (c : Dev nD) : (⟨k0_dev14 c, k0_dev14_lt c⟩ : Dev nD) = pr c 7 := Fin.ext (k0_dev14_eq c)

/-! ## Buffers, slots and semaphores -/

abbrev xM : Memref sig .tc .vmem S512x4096 .bf16 := Memref.whole cc0_stg0_0
abbrev oM : Memref sig .tc .vmem S512x16 .f32 := Memref.whole cc0_stg1_0
abbrev gM : Memref sig .tc .vmem S8x512x16 .f32 := Memref.whole cc0_scratch0

/-- The rectangle of slot `s`, and the slot as the copies name it. -/
abbrev slotR (s : Dev nD) : Rect S8x512x16 := Rect.unit (s := S8x512x16) (k0_off3 s) S1x512x16.size (k0_off3_inb s)
abbrev slotM (s : Dev nD) : Memref sig .tc .vmem S512x16 .f32 :=
  (gM.slice (slotR s) (fun _ => rfl)).squeeze S512x16 squeezes_S1x512x16_S512x16

/-- The indices of slot `s`. -/
def slotSet (s : Dev nD) : Finset S8x512x16.Idx := (slotM s).view.set

/-- The elements a copy of a slot moves, as the semaphores count them. -/
abbrev N : ℕ := (slotM 0).view.dmaCredit
theorem N_pos : 0 < N := View.dmaCredit_pos _ (by decide)

abbrev barS : Sem sig := (SemArray.scalar (sig.barrier 0 rfl) : Sems sig S_).sem
def sendQ (o : ℕ) (ho : o < 8) : DmaSem sig := ⟨2 + o, by show 2 + o < 18; omega⟩
def recvQ (s : Dev nD) : DmaSem sig := ⟨10 + s.val, by have h := s.isLt; simp only [nD] at h; show 10 + s.val < 18; omega⟩

abbrev barCell (c : Dev nD) : GSem nD τ sig := ((c : Thread nD τ), .reg barS)
/-- The cell on which `c` learns that its copy to `s` has left. -/
abbrev sendCell (c s : Dev nD) : GSem nD τ sig := ((c : Thread nD τ), .dma (sendQ (off c s) (off_lt c s)))
/-- The cell on which `c` learns that the copy from `s` has arrived. -/
abbrev recvCell (c s : Dev nD) : GSem nD τ sig := ((c : Thread nD τ), .dma (recvQ s))

/-- The kernel's own semaphores: `false` the eight it sends on, `true` the eight it receives on; -/
abbrev osem : Bool × Fin 8 → SemLoc sig
  | (false, o) => .dma (sendQ o.val o.isLt)
  | (true, s) => .dma (recvQ s)
/-- with the barrier semaphore, `none`. -/
abbrev csem : Option (Bool × Fin 8) → SemLoc sig
  | none => .reg barS
  | some k => osem k
abbrev kcell (ck : Dev nD × Option (Bool × Fin 8)) : GSem nD τ sig := ((ck.1 : Thread nD τ), csem ck.2)

/-! ## Contents -/

/-- The block device `c` was given, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The eight slots when every copy has landed: slot `s` holds what device `s` computed. -/
def gat : (cc0_scratch0 : Ref sig .tc).ty.Contents (Elt F) :=
  fun i => locV (xstg m ρ (i 0)) (ValueIdx.ix3 (n0 := 1) (n1 := 512) (n2 := 16) 0 (i 1) (i 2))

theorem mem_slotSet {s : Dev nD} {i : S8x512x16.Idx} : i ∈ slotSet s ↔ i 0 = s := by
  have h : slotSet s = (slotR s).set := by
    unfold slotSet
    exact (View.set_reshape _ _).trans (View.set_slice_whole cc0_scratch0 (slotR s))
  rw [h, Rect.mem_set_unit, k0_off3_eq]
  constructor
  · intro hi
    have h0 := hi 0
    simp only [Matrix.cons_val_zero] at h0
    exact Fin.ext (by have h1 := h0.1; have h2 : (i 0).val < s.val + 1 := h0.2; omega)
  · rintro rfl a
    have h1 := (i 1).isLt; have h2 := (i 2).isLt
    match a with
    | ⟨0, _⟩ => exact ⟨Nat.le_refl _, Nat.lt_succ_self _⟩
    | ⟨1, _⟩ => exact ⟨Nat.zero_le _, by show (i 1).val < 0 + 512; rw [Nat.zero_add]; exact h1⟩
    | ⟨2, _⟩ => exact ⟨Nat.zero_le _, by show (i 2).val < 0 + 16; rw [Nat.zero_add]; exact h2⟩

/-- Storing a device's sixteen values per row in its slot makes that slot what it is in `gat`. -/
theorem store_slot (c : Dev nD) (f : (cc0_scratch0 : Ref sig .tc).ty.Contents (Elt F)) :
    ∀ i ∈ slotSet c, (gM.access (slotR c) : View sig .tc _ _ _).write (Elt F) f (locV (xstg m ρ c)) Finset.univ i = gat m ρ i := by
  intro i hi
  have h0 : i 0 = c := mem_slotSet.mp hi
  have hi' : i = (gM.access (slotR c) : View sig .tc _ _ _).emb (ValueIdx.ix3 (n0 := 1) (n1 := 512) (n2 := 16) 0 (i 1) (i 2)) := by
    funext a; apply Fin.ext
    have h := congrFun (k0_off3_eq c) a
    show (i a).val = _
    match a with
    | ⟨0, _⟩ => show (i 0).val = k0_off3 c 0 + 1 * 0; rw [k0_off3_eq, h0]; rfl
    | ⟨1, _⟩ => show (i 1).val = k0_off3 c 1 + 1 * (i 1).val; rw [k0_off3_eq]; show (i 1).val = 0 + 1 * (i 1).val; omega
    | ⟨2, _⟩ => show (i 2).val = k0_off3 c 2 + 1 * (i 2).val; rw [k0_off3_eq]; show (i 2).val = 0 + 1 * (i 2).val; omega
  conv_lhs => rw [hi']
  rw [View.write_emb_of_mem _ _ (Finset.mem_univ _)]
  unfold gat
  rw [h0]; rfl

/-- A copy of a slot in which that slot is as in `gat` lands as in `gat`. -/
theorem copy_slot (s : Dev nD) (f : (cc0_scratch0 : Ref sig .tc).ty.Contents (Elt F)) :
    ∀ i ∈ slotSet s, (slotM s).view.write (Elt F) f ((slotM s).view.read (Elt F) (gat m ρ)) Finset.univ i = gat m ρ i := by
  intro i hi
  rw [View.write_read_eq_piecewise]
  exact Finset.piecewise_eq_of_mem _ _ _ hi

/-! ## Shares of a slot

A slot is cut in two halves: the left one stays with its device, the right one is dealt out to the copies that read it. -/

abbrev keepQ : PosShare TreeShare := fullShare.left
abbrev dropQ : PosShare TreeShare := Transfers.shareDrop fullShare.right 8
abbrev tokQ (s : Dev nD) : PosShare TreeShare := Transfers.shareTok fullShare.right 8 s

/-- Device `c`'s slot `s` at share `q` and contents `f`. -/
def slotPts (c s : Dev nD) (q : PosShare TreeShare) (f : (cc0_scratch0 : Ref sig .tc).ty.Contents (Elt F)) : sProp 𝕄 :=
  ((c : Thread nD τ).loc cc0_scratch0) ↦[slotSet s]{q} f

instance slotPts_storable (c s : Dev nD) (q) (f) : BI.Storable (upEmb : UEmb _ 𝕄) (slotPts (F := F) c s q f) := by unfold slotPts; infer_instance

/-! ## The schedule -/

def dutyOf (c : Dev nD) : SemLoc sig → Finset (Dev nD)
  | .reg _ => Finset.univ.erase c
  | .dma q => if (2 < q.val ∧ q.val < 10) ∨ (10 ≤ q.val ∧ q.val ≠ 10 + c.val) then {0} else ∅

def amountOf : SemLoc sig → ℕ
  | .reg _ => 1
  | .dma _ => N

def payOf (c d : Dev nD) : SemLoc sig → sProp 𝕄
  | .reg _ => iprop(∃ f, slotPts d c fullShare f)
  | .dma q => if 10 ≤ q.val then slotPts c (pr 0 (q.val - 10)) fullShare (gat m ρ)
    else slotPts c c (tokQ (pr c (q.val - 2))) (gat m ρ)

instance payOf_storable (c d : Dev nD) (sm : SemLoc sig) : BI.Storable (upEmb : UEmb _ 𝕄) (payOf (F := F) m ρ c d sm) := by
  cases sm with
  | reg _ => show BI.Storable upEmb (iprop(∃ f, slotPts d c fullShare f)); infer_instance
  | dma q =>
    show BI.Storable upEmb (if 10 ≤ q.val then slotPts c (pr 0 (q.val - 10)) fullShare (gat m ρ) else slotPts c c (tokQ (pr c (q.val - 2))) (gat m ρ))
    split <;> infer_instance

/-- One round per cell. -/
def Rd : Rounds.Schedule (GSem nD τ sig) (Dev nD) 𝕄 where
  duties g r := if r = 0 ∧ g.1.2 = .tc then dutyOf g.1.1 g.2 else ∅
  unitless _ := False
  amount g _ _ := amountOf g.2
  payload g _ d := payOf m ρ g.1.1 d g.2
  amount_pos g _ _ _ := by
    rcases g with ⟨_, _ | _⟩
    · exact Nat.one_pos
    · exact N_pos

instance Rd_payload_storable (g : GSem nD τ sig) (r : ℕ) (d : Dev nD) :
    BI.Storable (upEmb : UEmb _ 𝕄) ((Rd (F := F) m ρ).payload g r d) := payOf_storable m ρ g.1.1 d g.2

theorem duties_later (g : GSem nD τ sig) : ∀ r, 1 ≤ r → (Rd (F := F) m ρ).duties g r = ∅ :=
  fun r hr => if_neg fun h => by omega
theorem duties_zero (c : Dev nD) (sm : SemLoc sig) : (Rd (F := F) m ρ).duties ((c : Thread nD τ), sm) 0 = dutyOf c sm := by
  dsimp only [Rd]; exact if_pos ⟨rfl, rfl⟩
theorem duties_bar (c : Dev nD) : (Rd (F := F) m ρ).duties (barCell c) 0 = Finset.univ.erase c := duties_zero m ρ c _
theorem duties_send (c s : Dev nD) (h : s ≠ c) : (Rd (F := F) m ρ).duties (sendCell c s) 0 = {0} := by
  have h1 := (off_pos c s).mpr h; have h2 := off_lt c s
  exact (duties_zero m ρ c _).trans (if_pos (.inl (by show 2 < 2 + off c s ∧ 2 + off c s < 10; omega)))
theorem duties_recv (c s : Dev nD) (h : s ≠ c) : (Rd (F := F) m ρ).duties (recvCell c s) 0 = {0} := by
  have h1 : s.val ≠ c.val := fun h' => h (Fin.ext h')
  exact (duties_zero m ρ c _).trans (if_pos (.inr (by show 10 ≤ 10 + s.val ∧ 10 + s.val ≠ 10 + c.val; omega)))
theorem duties_send_self (c : Dev nD) : ∀ r, 0 ≤ r → (Rd (F := F) m ρ).duties (sendCell c c) r = ∅ := by
  intro r _
  by_cases hr : r = 0
  · subst hr
    have h0 : off c c = 0 := by have := (off_pos c c).not.mpr (fun h => h rfl); omega
    have h3 := c.isLt
    simp only [nD] at h3
    refine (duties_zero m ρ c _).trans (if_neg ?_)
    show ¬((2 < 2 + off c c ∧ 2 + off c c < 10) ∨ (10 ≤ 2 + off c c ∧ 2 + off c c ≠ 10 + c.val))
    omega
  · exact duties_later m ρ _ r (by omega)
theorem duties_recv_self (c : Dev nD) : ∀ r, 0 ≤ r → (Rd (F := F) m ρ).duties (recvCell c c) r = ∅ := by
  intro r _
  by_cases hr : r = 0
  · subst hr
    refine (duties_zero m ρ c _).trans (if_neg ?_)
    show ¬((2 < 10 + c.val ∧ 10 + c.val < 10) ∨ (10 ≤ 10 + c.val ∧ 10 + c.val ≠ 10 + c.val))
    omega
  · exact duties_later m ρ _ r (by omega)

theorem expect_bar (c : Dev nD) : (Rd (F := F) m ρ).expect (barCell c) 0 = 7 := by
  unfold Schedule.expect Schedule.amountOf
  rw [duties_bar, show (Rd (F := F) m ρ).amount (barCell c) 0 = fun _ => 1 from rfl, Finset.sum_const,
    Finset.card_erase_of_mem (Finset.mem_univ _), Finset.card_univ, Fintype.card_fin]
  rfl
theorem expect_send (c s : Dev nD) (h : s ≠ c) : (Rd (F := F) m ρ).expect (sendCell c s) 0 = N := by
  unfold Schedule.expect Schedule.amountOf; rw [duties_send m ρ c s h, Finset.sum_singleton]; rfl
theorem expect_recv (c s : Dev nD) (h : s ≠ c) : (Rd (F := F) m ρ).expect (recvCell c s) 0 = N := by
  unfold Schedule.expect Schedule.amountOf; rw [duties_recv m ρ c s h, Finset.sum_singleton]; rfl

theorem payload_bar (c d : Dev nD) : (Rd (F := F) m ρ).payload (barCell c) 0 d = iprop(∃ f, slotPts d c fullShare f) := rfl
theorem payload_send (c s d : Dev nD) : (Rd (F := F) m ρ).payload (sendCell c s) 0 d = slotPts c c (tokQ s) (gat m ρ) := by
  have h2 := off_lt c s
  refine (if_neg (by show ¬ 10 ≤ 2 + off c s; omega)).trans ?_
  show slotPts c c (tokQ (pr c (2 + off c s - 2))) (gat m ρ) = _
  rw [Nat.add_sub_cancel_left, pr_off]
theorem payload_recv (c s d : Dev nD) : (Rd (F := F) m ρ).payload (recvCell c s) 0 d = slotPts c s fullShare (gat m ρ) := by
  refine (if_pos (by show 10 ≤ 10 + s.val; omega)).trans ?_
  show slotPts c (pr 0 (10 + s.val - 10)) fullShare (gat m ρ) = _
  rw [Nat.add_sub_cancel_left, show pr 0 s.val = s from Fin.ext (by
    have h := s.isLt
    simp only [nD] at h
    show (0 + s.val) % 8 = s.val; omega)]

theorem rest_bar (c : Dev nD) : bigSep ((Rd (F := F) m ρ).duties (barCell c) 0 \ ∅) (fun d => (Rd (F := F) m ρ).payload (barCell c) 0 d)
    = bigSep (Finset.univ.erase c) fun d => iprop(∃ f, slotPts d c fullShare f) := by
  rw [Finset.sdiff_empty, duties_bar]; rfl
theorem rest_send (c s : Dev nD) (h : s ≠ c) :
    bigSep ((Rd (F := F) m ρ).duties (sendCell c s) 0 \ ∅) (fun d => (Rd (F := F) m ρ).payload (sendCell c s) 0 d) = slotPts c c (tokQ s) (gat m ρ) := by
  rw [Finset.sdiff_empty, duties_send m ρ c s h, bigSep_singleton, payload_send]
theorem rest_recv (c s : Dev nD) (h : s ≠ c) :
    bigSep ((Rd (F := F) m ρ).duties (recvCell c s) 0 \ ∅) (fun d => (Rd (F := F) m ρ).payload (recvCell c s) 0 d) = slotPts c s fullShare (gat m ρ) := by
  rw [Finset.sdiff_empty, duties_recv m ρ c s h, bigSep_singleton, payload_recv]

/-! ## What a device owes, and the levels -/

/-- The arrivals device `c` still owes once it has copied to the devices fewer than `j` places after it; -/
def oweR (c : Dev nD) (j : ℕ) : CellTallies nD τ sig Unit := ∑ s ∈ ge c j, tallyAt (recvCell s c) () N
/-- the barrier units it still owes once it has signalled those. -/
def oweB (c : Dev nD) (j : ℕ) : CellTallies nD τ sig Unit := ∑ s ∈ ge c j, tallyAt (barCell s) () 1
def O₀ (c : Dev nD) : CellTallies nD τ sig Unit := oweR c 1 + oweB c 1

theorem oweR_peel (c : Dev nD) (o : ℕ) (ho : o < 8) : oweR c o = oweR c (o + 1) + tallyAt (recvCell (pr c o) c) () N := by
  unfold oweR; rw [ge_peel c o ho, Finset.sum_insert (ge_not_mem c o ho), add_comm]
theorem oweB_peel (c : Dev nD) (o : ℕ) (ho : o < 8) : oweB c o = oweB c (o + 1) + tallyAt (barCell (pr c o)) () 1 := by
  unfold oweB; rw [ge_peel c o ho, Finset.sum_insert (ge_not_mem c o ho), add_comm]
theorem oweR_eight (c : Dev nD) : oweR c 8 = 0 := by unfold oweR; rw [ge_eight]; exact Finset.sum_empty
theorem oweB_eight (c : Dev nD) : oweB c 8 = 0 := by unfold oweB; rw [ge_eight]; exact Finset.sum_empty

def L (g : GSem nD τ sig) : Finset Unit := if g.1.2 = .tc then {()} else ∅
/-- Barrier cells at 1, receive cells at 2, the others at 0. -/
def lv (g : GSem nD τ sig) (_ : Unit) : ℕ := match g.2 with
  | .reg _ => 1
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c s : Dev nD) (u : Unit) : lv (recvCell c s) u = 2 := if_pos (by show 10 ≤ 10 + s.val; omega)

theorem sum_tally_pos {ι : Type} [DecidableEq ι] (S : Finset ι) (f : ι → GSem nD τ sig) (k : ℕ) {g : GSem nD τ sig} {u : Unit}
    (h : 0 < (∑ s ∈ S, (tallyAt (f s) () k : CellTallies nD τ sig Unit)) g u) : ∃ s ∈ S, g = f s := by
  by_contra hn
  rw [Finset.sum_apply, Finsupp.finset_sum_apply, Finset.sum_eq_zero] at h
  · exact Nat.lt_irrefl 0 h
  · intro s hs
    rw [tallyAt_apply, if_neg]
    exact fun h' => hn ⟨s, hs, h'.1⟩

theorem oweR_pos {c : Dev nD} {j : ℕ} {g : GSem nD τ sig} {u : Unit} (h : 0 < oweR c j g u) : ∃ s, g = recvCell s c :=
  let ⟨s, _, hs⟩ := sum_tally_pos _ (fun s => recvCell s c) N h; ⟨s, hs⟩
theorem O₀_pos {c : Dev nD} {g : GSem nD τ sig} {u : Unit} (h : 0 < O₀ c g u) : (∃ s, g = recvCell s c) ∨ ∃ s, g = barCell s := by
  unfold O₀ at h
  rw [Pi.add_apply, Finsupp.add_apply] at h
  rcases Nat.pos_of_ne_zero (fun h0 : oweR c 1 g u + oweB c 1 g u = 0 => by omega) |> fun _ => (by omega : 0 < oweR c 1 g u ∨ 0 < oweB c 1 g u) with h | h
  · exact .inl (oweR_pos h)
  · exact .inr (let ⟨s, _, hs⟩ := sum_tally_pos _ (fun s => barCell s) 1 h; ⟨s, hs⟩)

/-- The staging cells lie below everything a device owes at launch. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | ⟨s, rfl⟩ <;> exact Finset.mem_singleton_self _)
      (fun p hp => by rw [Finset.mem_singleton.mp hp]; exact Nat.le_of_eq (if_neg (by omega)))
      (fun g u hg => by
        rcases O₀_pos hg with ⟨s, rfl⟩ | ⟨s, rfl⟩
        · rw [lv_recv]; decide
        · exact Nat.one_pos)
  · rw [MayWait_zero]; iintro -; iempintro

/-- At its barrier wait a device owes arrivals only. -/
theorem mayWait_bar (c : Dev nD) (j : ℕ) : (levAts L lv : sProp 𝕄) ⊢ MayWait (c : Thread nD τ) (.reg barS) () (oweR c j) :=
  MayOwe.of_cut (L := L) (lev := lv) 1 (fun p hp => by rw [Finset.mem_singleton.mp hp, L_tc]; exact Finset.mem_singleton_self _)
    (fun g u hg => by obtain ⟨s, rfl⟩ := oweR_pos hg; exact Finset.mem_singleton_self _)
    (fun p hp => by rw [Finset.mem_singleton.mp hp]; exact Nat.le_refl 1)
    (fun g u hg => by obtain ⟨s, rfl⟩ := oweR_pos hg; rw [lv_recv]; decide)

end Cert.TopK

end
-- ==== Proof.Steps.lean ====
/-
# The steps of the exchange

One lemma per kind of step — a signal, the wait for seven signals, a copy, the wait for an arrival, the wait for a departure
— each stated for the peer `o` places away, for every `o`. What remains to be done is kept as one separating conjunction over
the peers still ahead (`ge c o`), what has been done as one over the peers behind (`lo c o`).
-/
module

public import proofs.«01_k».proof.Proof.Common

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device shares -/

abbrev CK : Type := Dev nD × Option (Bool × Fin 8)
abbrev sendK (c s : Dev nD) : CK := (c, some (false, ⟨off c s, off_lt c s⟩))
abbrev recvK (c s : Dev nD) : CK := (c, some (true, s))

/-- Every cell's invariant, at the names `K`, and that every cell has reached its round. -/
def records (K : CK → ℕ) : sProp 𝕄 :=
  iprop((bigSep Finset.univ fun ck : CK => cellInv ER (Rd m ρ) (K ck) (kcell ck))
    ∗ bigSep Finset.univ fun ck : CK => reached ER (kcell ck) 0)

instance records_persistent (K : CK → ℕ) : BI.Persistent (records m ρ K) := by unfold records; infer_instance

theorem inv_at (K : CK → ℕ) (ck : CK) : records m ρ K ⊢ cellInv ER (Rd m ρ) (K ck) (kcell ck) := by
  have h : records m ρ K ⊢ bigSep Finset.univ fun ck : CK => cellInv ER (Rd m ρ) (K ck) (kcell ck) := by
    unfold records; iintro ⟨H, -⟩; iexact H
  exact h.trans (bigSep_elim (Finset.mem_univ ck))
theorem reached_at (K : CK → ℕ) (ck : CK) : records m ρ K ⊢ (reached ER (kcell ck) 0 : sProp 𝕄) := by
  have h : records m ρ K ⊢ (bigSep Finset.univ fun ck : CK => reached ER (kcell ck) 0 : sProp 𝕄) := by
    unfold records; iintro ⟨-, H⟩; iexact H
  exact h.trans (bigSep_elim (Finset.mem_univ ck))

/-- What a device owes, whatever it has waited for. -/
def ow (c : Dev nD) (O : CellTallies nD τ sig Unit) : sProp 𝕄 := iprop(∃ W, owes (c : Thread nD τ) O W)

section Steps

variable (K : CK → ℕ) (c : Dev nD)

/-- What a signal to peer `s` needs: the duty at `s`'s barrier and the slot it hands over. -/
def sigs (s : Dev nD) : sProp 𝕄 := iprop(dutyTok ER (barCell s) 0 c ∗ ∃ f, slotPts c s fullShare f)

/-- The state with the signals to the devices at least `o` places away still to send. -/
def SIG (o : ℕ) : sProp 𝕄 := iprop(ow c (oweR c 1 + oweB c o) ∗ bigSep (ge c o) (sigs (F := F) c))

theorem step_signal (o : ℕ) (h0 : 1 ≤ o) (ho : o < 8) (n : Dev nD) (hn : n = pr c o) (z : ℤ) (hz : z = ((1 : ℕ) : ℤ))
    {α : Type} {Q : α → sProp 𝕄} {k : PUnit → Prog (TpuEff nD τ sig (Elt F) Λ₀ .tc) α} :
    iprop(records m ρ K ∗ SIG c o)
      ⊢ iprop((SIG c (o + 1)
          -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS z) k) Q) := by
  subst hn hz
  unfold SIG
  rw [bigSep_ge_peel c o ho, oweB_peel c o ho, ← add_assoc]
  unfold ow
  iintro ⟨#HR, ⟨%W, HO⟩, Hs, Hrest⟩ Hk
  unfold sigs
  icases Hs with ⟨Ht, Hslot⟩
  iapply (Rounds.wp_signal 𝒱₀ ER (Rd m ρ) (c : Thread nD τ) none (dst := (pr c o : Thread nD τ)) (κ := K (pr c o, none)) (r := 0)
      (d := c) (by rw [duties_bar]; exact Finset.mem_erase.mpr ⟨(pr_ne c o h0 ho).symm, Finset.mem_univ _⟩) rfl ()
      (oweR c 1 + oweB c (o + 1)) rfl (W := W)) $$ [HO Ht Hslot]
  · isplitr; · iapply (inv_at m ρ K (pr c o, none)); iexact HR
    isplitl [HO]; · iexact HO
    isplitl [Ht]; · iexact Ht
    isplitl [Hslot]; · rw [payload_bar]; iexact Hslot
    iapply (reached_at m ρ K (pr c o, none)); iexact HR
  iintro HO
  iapply Hk
  isplitl [HO]
  · iexists W; iexact HO
  iexact Hrest

theorem step_barrier (z : ℤ) (hz : z = ((7 : ℕ) : ℤ)) {α : Type} {Q : α → sProp 𝕄} {k : PUnit → Prog (TpuEff nD τ sig (Elt F) Λ₀ .tc) α} :
    iprop(records m ρ K ∗ levAts L lv ∗ cred (tallyAt (barCell c) () 7) ∗ ow c (oweR c 1) ∗ atPos ER (barCell c) 0 ∅ 0)
      ⊢ iprop(((ow c (oweR c 1) ∗ atPos ER (barCell c) (0 + 1) ∅ 0 ∗ bigSep (ge c 1) (fun s => iprop(∃ f, slotPts (F := F) s c fullShare f)))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS z) k) Q) := by
  subst hz
  unfold ow
  iintro ⟨#HR, #Hlev, Hc, ⟨%W, HO⟩, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := oweR c 1) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c 1); iexact Hlev
    iexact Hat
  iintro ⟨HO, Hat, -, Hpay⟩
  ihave Hp := (Entails.of_eq (rest_bar m ρ c)) $$ Hpay
  iapply Hk
  isplitl [HO]
  · iexists _; iexact HO
  isplitl [Hat]; · iexact Hat
  rw [ge_one]; iexact Hp

/-- What a copy to peer `s` needs: the two duties it pays, `s`'s slot of ours, and a share of our own slot. -/
def snds (s : Dev nD) : sProp 𝕄 :=
  iprop(dutyTok ER (recvCell s c) 0 0 ∗ dutyTok ER (sendCell c s) 0 0 ∗ (∃ f, slotPts s c fullShare f) ∗ slotPts c c (tokQ s) (gat m ρ))
/-- What it leaves: the credit of its departure. -/
def sent (s : Dev nD) : sProp 𝕄 := cred (tallyAt (sendCell c s) () N)

/-- The state with the copies to the devices at least `o` places away still to start. -/
def SND (o : ℕ) : sProp 𝕄 := iprop(ow c (oweR c o) ∗ bigSep (ge c o) (snds m ρ c) ∗ bigSep (lo c o) (sent (F := F) c))

theorem credit_slot (s : Dev nD) : (slotM s).view.dmaCredit = N := rfl

theorem step_send (o : ℕ) (h0 : 1 ≤ o) (ho : o < 8) (n : Dev nD) (hn : n = pr c o) (qs qr : DmaSem sig) (hqs : qs = sendQ o ho) (hqr : qr = recvQ c)
    {hsc : (slotM c : Memref sig (Dev.tc n : Thread nD τ).2.kind .vmem S512x16 .f32).view.ref.isScScratch = false}
    {hsrc : (slotM c).view.WordExact} {hdst : (slotM c).view.WordExact}
    {hsem : DmaTarget.Typed .vmem (.dma qr) (.remote (Dev.tc n : Thread nD τ) (slotM c) (.dma qs) hsc)}
    {α : Type} {Q : α → sProp 𝕄} {k : PUnit → Prog (TpuEff nD τ sig (Elt F) Λ₀ .tc) α} :
    iprop(records m ρ K ∗ SND m ρ c o)
      ⊢ iprop((SND m ρ c (o + 1)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slotM c) (.remote (Dev.tc n : Thread nD τ) (slotM c) (.dma qs) hsc) (.dma qr) hsrc hdst hsem) k) Q) := by
  subst hn hqr
  have hq : qs = sendQ (off c (pr c o)) (off_lt c (pr c o)) := by rw [hqs]; exact Fin.ext (by show 2 + o = 2 + off c (pr c o); rw [off_pr c o ho])
  subst hq
  have hne : pr c o ≠ c := pr_ne c o h0 ho
  unfold SND
  rw [bigSep_ge_peel c o ho, oweR_peel c o ho, bigSep_lo_push c o h0 ho]
  unfold ow
  iintro ⟨#HR, ⟨%W, HO⟩, ⟨Hs, Hrest⟩, Hdone⟩ Hk
  unfold snds
  icases Hs with ⟨Htr, Hts, ⟨%fd, Hdst⟩, Hsrc⟩
  iapply (Rounds.wp_send_pointsTo 𝒱₀ ER (Rd m ρ) (c : Thread nD τ) none (κ₁ := K (sendK c (pr c o))) (κ₂ := K (recvK (pr c o) c))
      (r₁ := 0) (r₂ := 0) (d₁ := 0) (d₂ := 0) (fs := gat m ρ) (fd := fd) (q := tokQ (pr c o))
      (by rw [duties_send m ρ c _ hne]; exact Finset.mem_singleton_self _) (by rw [duties_recv m ρ _ c hne.symm]; exact Finset.mem_singleton_self _)
      () () N (by exact credit_slot c) rfl rfl (oweR c (o + 1)) rfl (W := W)
      (by rw [payload_send]; exact BI.Entails.refl _)
      (by rw [payload_recv]; exact Entails.of_eq (pointsTo_congr (copy_slot m ρ c fd)))) $$ [HO Htr Hts Hdst Hsrc]
  · isplitr; · iapply (inv_at m ρ K (sendK c (pr c o))); iexact HR
    isplitr; · iapply (inv_at m ρ K (recvK (pr c o) c)); iexact HR
    isplitl [Hsrc]; · unfold slotPts; iexact Hsrc
    isplitl [Hdst]; · unfold slotPts; iexact Hdst
    isplitl [HO]; · iexact HO
    isplitl [Hts]; · iexact Hts
    isplitr; · iapply (reached_at m ρ K (sendK c (pr c o))); iexact HR
    isplitl [Htr]; · iexact Htr
    iapply (reached_at m ρ K (recvK (pr c o) c)); iexact HR
  iintro ⟨Hcr, HO⟩
  iapply Hk
  isplitl [HO]
  · iexists W; iexact HO
  isplitl [Hrest]; · iexact Hrest
  isplitl [Hcr]
  · unfold sent; iexact Hcr
  iexact Hdone

/-- Before and after the wait for the arrival from peer `s`. -/
def awaitR (s : Dev nD) : sProp 𝕄 := iprop(cred (tallyAt (recvCell c s) () N) ∗ atPos ER (recvCell c s) 0 ∅ 0)
def gotR (s : Dev nD) : sProp 𝕄 := iprop(atPos ER (recvCell c s) (0 + 1) ∅ 0 ∗ slotPts c s fullShare (gat m ρ))

/-- The state with the copies from the devices at least `o` places away still to wait for. -/
def RCV (o : ℕ) : sProp 𝕄 := iprop(ow c 0 ∗ bigSep (ge c o) (awaitR (F := F) c) ∗ bigSep (lo c o) (gotR m ρ c))

theorem step_recv (o : ℕ) (h0 : 1 ≤ o) (ho : o < 8) (q : DmaSem sig) (hq : q = recvQ (pr c o))
    {src dst : Memref sig .tc .vmem S512x16 .f32} {hsrc : src.view.WordExact} {hdst : dst.view.WordExact}
    {α : Type} {Q : α → sProp 𝕄} {k : PUnit → Prog (TpuEff nD τ sig (Elt F) Λ₀ .tc) α} :
    iprop(records m ρ K ∗ RCV m ρ c o)
      ⊢ iprop((RCV m ρ c (o + 1)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  have hne : pr c o ≠ c := pr_ne c o h0 ho
  have hN : dst.view.dmaCredit = N := rfl
  unfold RCV
  rw [bigSep_ge_peel c o ho, bigSep_lo_push c o h0 ho]
  unfold ow
  iintro ⟨#HR, ⟨%W, HO⟩, ⟨Hs, Hrest⟩, Hdone⟩ Hk
  unfold awaitR
  icases Hs with ⟨Hc, Hat⟩
  iapply (Rounds.wp_wait_rest_token 𝒱₀ ER (Rd m ρ) (c : Thread nD τ) none (κ := K (recvK c (pr c o)))
      (wpE_waitDma2_eq 𝒱₀ (c : Thread nD τ) none Set.univ) (Set.mem_univ _) () (O := 0) (W := W) (R := 0) (m := 0) (T := ∅)
      (by rw [Nat.zero_add, expect_recv m ρ c _ hne, hN])) $$ [Hc HO Hat]
  · isplitr; · iapply (inv_at m ρ K (recvK c (pr c o))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c _ hne)) $$ Hpay
  iapply Hk
  isplitl [HO]
  · iexists _; iexact HO
  isplitl [Hrest]; · iexact Hrest
  isplitl [Hat Hp]
  · unfold gotR; isplitl [Hat] <;> iassumption
  iexact Hdone

/-- Before and after the wait for the departure to peer `s`. -/
def awaitS (s : Dev nD) : sProp 𝕄 := iprop(cred (tallyAt (sendCell c s) () N) ∗ atPos ER (sendCell c s) 0 ∅ 0)
def gotS (s : Dev nD) : sProp 𝕄 := iprop(atPos ER (sendCell c s) (0 + 1) ∅ 0 ∗ slotPts c c (tokQ s) (gat m ρ))

/-- The state with the departures to the devices at least `o` places away still to wait for. -/
def LFT (o : ℕ) : sProp 𝕄 := iprop(ow c 0 ∗ bigSep (ge c o) (awaitS (F := F) c) ∗ bigSep (lo c o) (gotS m ρ c))

theorem step_left (o : ℕ) (h0 : 1 ≤ o) (ho : o < 8) (q : DmaSem sig) (hq : q = sendQ o ho)
    {src dst : Memref sig .tc .vmem S512x16 .f32} {hsrc : src.view.WordExact} {hdst : dst.view.WordExact}
    {α : Type} {Q : α → sProp 𝕄} {k : PUnit → Prog (TpuEff nD τ sig (Elt F) Λ₀ .tc) α} :
    iprop(records m ρ K ∗ LFT m ρ c o)
      ⊢ iprop((LFT m ρ c (o + 1)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  have hq' : q = sendQ (off c (pr c o)) (off_lt c (pr c o)) := by rw [hq]; exact Fin.ext (by show 2 + o = 2 + off c (pr c o); rw [off_pr c o ho])
  subst hq'
  have hne : pr c o ≠ c := pr_ne c o h0 ho
  have hN : dst.view.dmaCredit = N := rfl
  unfold LFT
  rw [bigSep_ge_peel c o ho, bigSep_lo_push c o h0 ho]
  unfold ow
  iintro ⟨#HR, ⟨%W, HO⟩, ⟨Hs, Hrest⟩, Hdone⟩ Hk
  unfold awaitS
  icases Hs with ⟨Hc, Hat⟩
  iapply (Rounds.wp_wait_rest_token 𝒱₀ ER (Rd m ρ) (c : Thread nD τ) none (κ := K (sendK c (pr c o)))
      (wpE_waitDma2_eq 𝒱₀ (c : Thread nD τ) none Set.univ) (Set.mem_univ _) () (O := 0) (W := W) (R := 0) (m := 0) (T := ∅)
      (by rw [Nat.zero_add, expect_send m ρ c _ hne, hN])) $$ [Hc HO Hat]
  · isplitr; · iapply (inv_at m ρ K (sendK c (pr c o))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c _ hne)) $$ Hpay
  iapply Hk
  isplitl [HO]
  · iexists _; iexact HO
  isplitl [Hrest]; · iexact Hrest
  isplitl [Hat Hp]
  · unfold gotS; isplitl [Hat] <;> iassumption
  iexact Hdone

end Steps

end Cert.TopK

end
-- ==== Proof.Parts.lean ====
/-
# The body of the kernel, part by part
-/
module

public import proofs.«01_k».proof.Proof.Steps

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores as the body names them -/

theorem barq : (SemArray.scalar (sig.barrier 0 rfl) : Sems sig S_).sem = barS := rfl
theorem sendq_1 : ((cc0_scratch1.slice (Rect.unit (s := S8) ![1] S1.size inb_S8_S1_1)).squeeze S_ squeezes_S1_S_).sem = sendQ 1 (by decide) := by decide
theorem sendq_2 : ((cc0_scratch1.slice (Rect.unit (s := S8) ![2] S1.size inb_S8_S1_2)).squeeze S_ squeezes_S1_S_).sem = sendQ 2 (by decide) := by decide
theorem sendq_3 : ((cc0_scratch1.slice (Rect.unit (s := S8) ![3] S1.size inb_S8_S1_3)).squeeze S_ squeezes_S1_S_).sem = sendQ 3 (by decide) := by decide
theorem sendq_4 : ((cc0_scratch1.slice (Rect.unit (s := S8) ![4] S1.size inb_S8_S1_4)).squeeze S_ squeezes_S1_S_).sem = sendQ 4 (by decide) := by decide
theorem sendq_5 : ((cc0_scratch1.slice (Rect.unit (s := S8) ![5] S1.size inb_S8_S1_5)).squeeze S_ squeezes_S1_S_).sem = sendQ 5 (by decide) := by decide
theorem sendq_6 : ((cc0_scratch1.slice (Rect.unit (s := S8) ![6] S1.size inb_S8_S1_6)).squeeze S_ squeezes_S1_S_).sem = sendQ 6 (by decide) := by decide
theorem sendq_7 : ((cc0_scratch1.slice (Rect.unit (s := S8) ![7] S1.size inb_S8_S1_7)).squeeze S_ squeezes_S1_S_).sem = sendQ 7 (by decide) := by decide

theorem recvq : ∀ c : Dev nD, ((cc0_scratch2.slice (Rect.unit (s := S8) (k0_off2 c) S1.size (k0_off2_inb c))).squeeze S_ squeezes_S1_S_).sem = recvQ c := by decide
theorem waitq : ∀ (c : Dev nD) (r : Fin 7),
    ((cc0_scratch2.slice (Rect.unit (s := S8) (k0_off4 c (BitVec.ofNat 32 (1 + r.val))) S1.size (k0_off4_inb c r))).squeeze S_ squeezes_S1_S_).sem
      = recvQ (pr c (1 + r.val)) := by decide

/-! ## Slots and shares -/

theorem slot_disjoint (s t : Dev nD) (h : s ≠ t) : Disjoint (slotSet s) (slotSet t) :=
  Finset.disjoint_left.mpr fun i hs ht => h ((mem_slotSet.mp hs).symm.trans (mem_slotSet.mp ht))

/-- The buffer whole is its eight slots. -/
theorem whole_slots (c : Dev nD) (q : PosShare TreeShare) (f : (cc0_scratch0 : Ref sig .tc).ty.Contents (Elt F)) :
    (((c : Thread nD τ).loc cc0_scratch0) ↦{q} f : sProp 𝕄) = bigSep Finset.univ fun s => slotPts c s q f := by
  have h := pointsTo_biUnion (Ix := Unit) (Name := ℕ) (U := UU) (Lvl := ℕ) (ℓ := (c : Thread nD τ).loc cc0_scratch0) (q := q) (f := f) Finset.univ (fun s : Dev nD => slotSet s)
    (fun s _ t _ hst => slot_disjoint s t hst)
  unfold slotPts
  rw [← h]
  refine congrArg (fun I => (((c : Thread nD τ).loc cc0_scratch0) ↦[I]{q} f : sProp 𝕄)) (Finset.eq_univ_of_forall fun i => ?_).symm
  exact Finset.mem_biUnion.mpr ⟨(i : S8x512x16.Idx) 0, Finset.mem_univ _, mem_slotSet.mpr rfl⟩

/-- A slot is its two halves. -/
theorem slot_halves (c s : Dev nD) (f : (cc0_scratch0 : Ref sig .tc).ty.Contents (Elt F)) :
    (slotPts c s fullShare f : sProp 𝕄) = iprop(slotPts c s keepQ f ∗ slotPts c s fullShare.right f) := by
  unfold slotPts
  exact Entails.antisymm (pointsTo_share (PosShare.mem_left_op_right _)).1 (pointsTo_share (PosShare.mem_left_op_right _)).2

/-- The right half of a device's own slot is a rest and a share per device. -/
theorem slot_deal (c : Dev nD) (f : (cc0_scratch0 : Ref sig .tc).ty.Contents (Elt F)) :
    (slotPts c c fullShare.right f : sProp 𝕄)
      = iprop(slotPts c c dropQ f ∗ slotPts c c (tokQ c) f ∗ bigSep (Finset.univ.erase c) fun s => slotPts c c (tokQ s) f) := by
  have h : (slotPts c c fullShare.right f : sProp 𝕄) = iprop(slotPts c c dropQ f ∗ bigSep Finset.univ fun s => slotPts c c (tokQ s) f) := by
    unfold slotPts
    exact Entails.antisymm (Transfers.pointsTo_toks_split fullShare.right 8) (Transfers.pointsTo_toks_join fullShare.right 8)
  rw [h, bigSep_univ_at _ c]

/-! ## The loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

abbrev xR : Rect S512x4096 := Rect.unit (s := S512x4096) ![0, 0] S512x4096.size inb_S512x4096_S512x4096_0_0
abbrev oR : Rect S512x16 := Rect.unit (s := S512x16) ![0, 0] S512x16.size inb_S512x16_S512x16_0_0
abbrev gR : Rect S8x512x16 := Rect.unit (s := S8x512x16) ![0, 0, 0] S8x512x16.size inb_S8x512x16_S8x512x16_0_0_0

theorem read_x (f : (cc0_stg0_0 : Ref sig .tc).ty.Contents (Elt F)) : (xM : Memref sig .tc .vmem S512x4096 .bf16).view.readAt (Elt F) xR.toLoadRect f = f :=
  Memref.readAt_unit_zero (Elt F) cc0_stg0_0 hz2 _ f
theorem read_g (f : (cc0_scratch0 : Ref sig .tc).ty.Contents (Elt F)) : (gM : Memref sig .tc .vmem S8x512x16 .f32).view.readAt (Elt F) gR.toLoadRect f = f :=
  Memref.readAt_unit_zero (Elt F) cc0_scratch0 hz3 _ f
theorem write_o (f w : (cc0_stg1_0 : Ref sig .tc).ty.Contents (Elt F)) :
    ((oM : Memref sig .tc .vmem S512x16 .f32).access oR : View sig .tc _ _ _).write (Elt F) f w Finset.univ = w :=
  Memref.write_access_unit_zero_univ (Elt F) cc0_stg1_0 hz2 _ f w

theorem access_slot (c : Dev nD) : ((gM : Memref sig .tc .vmem S8x512x16 .f32).access (slotR c) : View sig .tc _ _ _).setOn Finset.univ ⊆ slotSet c := by
  refine Finset.Subset.trans (View.setOn_subset_set _ _) ?_
  exact Finset.Subset.trans (Finset.subset_of_eq (View.set_slice_whole cc0_scratch0 (slotR c))) (Finset.subset_of_eq
    ((View.set_reshape _ _).trans (View.set_slice_whole cc0_scratch0 (slotR c))).symm)
theorem load_slot (c : Dev nD) : (gM : Memref sig .tc .vmem S8x512x16 .f32).view.setOn (slotR c).toLoadRect.set ⊆ slotSet c := by
  intro i hi
  obtain ⟨x, hx, rfl⟩ := Finset.mem_map.mp hi
  have h0 : x ∈ (slotR c).set := hx
  rw [Rect.mem_set_unit, k0_off3_eq] at h0
  refine mem_slotSet.mpr (Fin.ext ?_)
  have h1 := (h0 0).1; have h2 : (x 0).val < c.val + 1 := (h0 0).2
  simp only [Matrix.cons_val_zero] at h1
  show (x 0).val = c.val
  omega

/-! ## The parts -/

section Parts

variable (K : CK → ℕ) (c : Dev nD)

local notation "Θ" => wp frame (wpE (defs₀ (F := F)) 𝒱₀ (c : Thread nD τ) none) Set.univ

abbrev P0 : Prog (TpuEff nD τ sig (Elt F) Λ₀ .tc) PUnit := .ret ⟨⟩

set_option maxHeartbeats 800000 in
theorem part1_spec (Q : (Σ' (_ : Dev nD) (_ : BitVec 32) (_ : Sems sig S_) (_ : BitVec 32), BitVec 32) → sProp 𝕄) :
    iprop(records m ρ K ∗ SIG c 1)
      ⊢ iprop((∀ v2 v24 w, SIG c 6 -∗ Q ⟨c, v2, SemArray.scalar (sig.barrier 0 rfl), v24, w⟩)
        -∗ Θ (k0_part1 xM (Memref.isWhole_whole _) oM (Memref.isWhole_whole _) gM (Memref.isWhole_whole _) cc0_scratch1 cc0_scratch2) Q) := by
  rw [k0_part1_eq_skeleton]; unfold k0_part1_skel
  simp only [semSignalWord, semWaitWord, Prog.lift, Prog.bind_op, Prog.bind_ret, Prog.pure_eq_ret, wp_deviceId]
  iintro ⟨#HR, H⟩ Hk
  iapply (step_signal m ρ K c 1 (by decide) (by decide) _ (dev1_eq c) _ rfl) $$ [H]
  · isplitr; · iexact HR
    iexact H
  iintro H
  iapply (step_signal m ρ K c 2 (by decide) (by decide) _ (dev2_eq c) _ rfl) $$ [H]
  · isplitr; · iexact HR
    iexact H
  iintro H
  iapply (step_signal m ρ K c 3 (by decide) (by decide) _ (dev3_eq c) _ rfl) $$ [H]
  · isplitr; · iexact HR
    iexact H
  iintro H
  iapply (step_signal m ρ K c 4 (by decide) (by decide) _ (dev4_eq c) _ rfl) $$ [H]
  · isplitr; · iexact HR
    iexact H
  iintro H
  iapply (step_signal m ρ K c 5 (by decide) (by decide) _ (dev5_eq c) _ rfl) $$ [H]
  · isplitr; · iexact HR
    iexact H
  iintro H
  rw [wp_ret]; imodintro
  iapply Hk; iexact H

set_option maxHeartbeats 1600000 in
theorem part2_spec (v2 v24 w : BitVec 32) (X : (cc0_stg0_0 : Ref sig .tc).ty.Contents (Elt F))
    (Q : (Σ' (v34 : FVec F S512x128 .bf16) (v35 : FVec F S512x128 .bf16) (v36 : FVec F S512x128 .bf16) (v37 : FVec F S512x128 .bf16) (v38 : FVec F S512x128 .bf16) (v39 : FVec F S512x128 .bf16) (v40 : FVec F S512x128 .bf16) (v41 : FVec F S512x128 .bf16) (v42 : FVec F S512x128 .bf16) (v43 : FVec F S512x128 .bf16) (v44 : FVec F S512x128 .bf16) (v45 : FVec F S512x128 .bf16) (v46 : FVec F S512x128 .bf16) (v47 : FVec F S512x128 .bf16) (v48 : FVec F S512x128 .bf16) (v49 : FVec F S512x128 .bf16) (v50 : FVec F S512x128 .bf16) (v51 : FVec F S512x128 .bf16) (v52 : FVec F S512x128 .bf16) (v53 : FVec F S512x128 .bf16) (v54 : FVec F S512x128 .bf16) (v55 : FVec F S512x128 .bf16) (v56 : FVec F S512x128 .bf16) (v57 : FVec F S512x128 .bf16) (v58 : FVec F S512x128 .bf16) (v59 : FVec F S512x128 .bf16) (v60 : FVec F S512x128 .bf16) (v61 : FVec F S512x128 .bf16) (v62 : FVec F S512x128 .bf16) (v63 : FVec F S512x128 .bf16) (v64 : FVec F S512x128 .bf16) (v65 : FVec F S512x128 .bf16) (v66 : FVec F S512x128 .f32), FVec F S512x128 .f32) → sProp 𝕄) :
    iprop(records m ρ K ∗ levAts L lv ∗ SIG c 6 ∗ cred (tallyAt (barCell c) () 7) ∗ atPos ER (barCell c) 0 ∅ 0 ∗ (((c : Thread nD τ).loc cc0_stg0_0) ↦{fullShare} X))
      ⊢ iprop(((ow c (oweR c 1) ∗ atPos ER (barCell c) (0 + 1) ∅ 0 ∗ bigSep (ge c 1) (fun s => iprop(∃ f, slotPts (F := F) s c fullShare f))
            ∗ (((c : Thread nD τ).loc cc0_stg0_0) ↦{fullShare} X))
          -∗ Q ⟨k0_pay2 X, k0_pay3 X, k0_pay4 X, k0_pay5 X, k0_pay6 X, k0_pay7 X, k0_pay8 X, k0_pay9 X, k0_pay10 X, k0_pay11 X, k0_pay12 X, k0_pay13 X, k0_pay14 X, k0_pay15 X, k0_pay16 X, k0_pay17 X, k0_pay18 X, k0_pay19 X, k0_pay20 X, k0_pay21 X, k0_pay22 X, k0_pay23 X, k0_pay24 X, k0_pay25 X, k0_pay26 X, k0_pay27 X, k0_pay28 X, k0_pay29 X, k0_pay30 X, k0_pay31 X, k0_pay32 X, k0_pay33 X, k0_pay34, k0_pay35⟩)
        -∗ Θ (k0_part2 xM (Memref.isWhole_whole _) oM (Memref.isWhole_whole _) gM (Memref.isWhole_whole _) cc0_scratch1 cc0_scratch2 c v2 (SemArray.scalar (sig.barrier 0 rfl)) v24 w) Q) := by
  rw [k0_part2_eq_skeleton]; unfold k0_part2_skel
  simp only [semSignalWord, semWaitWord, Prog.lift, Prog.bind_op, Prog.bind_ret, Prog.pure_eq_ret, wp_deviceId]
  iintro ⟨#HR, #Hlev, H, Hc, Hat, Hx⟩ Hk
  iapply (step_signal m ρ K c 6 (by decide) (by decide) _ (dev6_eq c) _ rfl) $$ [H]
  · isplitr; · iexact HR
    iexact H
  iintro H
  iapply (step_signal m ρ K c 7 (by decide) (by decide) _ (dev7_eq c) _ rfl) $$ [H]
  · isplitr; · iexact HR
    iexact H
  iintro H
  unfold SIG
  rw [oweB_eight, add_zero]
  icases H with ⟨HO, -⟩
  iapply (step_barrier m ρ K c _ rfl) $$ [HO Hc Hat]
  · isplitr; · iexact HR
    isplitr; · iexact Hlev
    isplitl [Hc]; · iexact Hc
    isplitl [HO] <;> iassumption
  iintro ⟨HO, Hat, Hs⟩
  iapply (wp_load 𝒱₀ (c : Thread nD τ) none Set.univ (m := xM) (Finset.subset_univ _)) $$ Hx; iintro Hx
  rw [read_x, wp_ret]; imodintro
  iapply Hk
  isplitl [HO]; · iexact HO
  isplitl [Hat]; · iexact Hat
  isplitl [Hs] <;> iassumption

set_option maxHeartbeats 800000 in
theorem part11_spec (v2 : BitVec 32) (f : (cc0_scratch0 : Ref sig .tc).ty.Contents (Elt F)) (Q : BitVec 32 → sProp 𝕄) :
    slotPts c c fullShare f
      ⊢ iprop((∀ w, slotPts c c fullShare (gat m ρ) -∗ Q w)
        -∗ Θ (k0_part11 xM (Memref.isWhole_whole _) oM (Memref.isWhole_whole _) gM (Memref.isWhole_whole _) cc0_scratch1 cc0_scratch2 c v2 (w411 (xstg m ρ c)) (w422 (xstg m ρ c)) (w432 (xstg m ρ c)) (w442 (xstg m ρ c)) (w452 (xstg m ρ c)) (w462 (xstg m ρ c)) (w472 (xstg m ρ c)) (w482 (xstg m ρ c)) (w492 (xstg m ρ c)) (w502 (xstg m ρ c)) (w512 (xstg m ρ c)) (w516 (xstg m ρ c)) (w517 (xstg m ρ c)) (w518 (xstg m ρ c)) (w519 (xstg m ρ c)) (w521 (xstg m ρ c)) (w522 (xstg m ρ c))) Q) := by
  rw [k0_part11_eq_skeleton]; unfold k0_part11_skel
  simp only [semSignalWord, semWaitWord, Prog.lift, Prog.bind_op, Prog.bind_ret, Prog.pure_eq_ret, wp_deviceId]
  unfold slotPts
  iintro H Hk
  iapply (wp_load 𝒱₀ (c : Thread nD τ) none Set.univ (m := gM) (load_slot c)) $$ H; iintro H
  iapply (wp_store 𝒱₀ (c : Thread nD τ) none Set.univ (m := gM) (r := slotR c) (Mk := Finset.univ) (access_slot c)) $$ H; iintro H
  rw [wp_ret]; imodintro
  iapply Hk
  ihave H' := (Entails.of_eq (pointsTo_congr (store_slot m ρ c f))) $$ H
  iexact H'

set_option maxHeartbeats 1600000 in
theorem part12_spec (v2 w : BitVec 32) (Q : PUnit → sProp 𝕄) :
    iprop(records m ρ K ∗ SND m ρ c 1) ⊢ iprop((SND m ρ c 3 -∗ Q ⟨⟩) -∗ Θ (k0_part12 xM (Memref.isWhole_whole _) oM (Memref.isWhole_whole _) gM (Memref.isWhole_whole _) cc0_scratch1 cc0_scratch2 c v2 w) Q) := by
  rw [k0_part12_eq_skeleton]; unfold k0_part12_skel
  simp only [semSignalWord, semWaitWord, Prog.lift, Prog.bind_op, Prog.bind_ret, Prog.pure_eq_ret, wp_deviceId]
  iintro ⟨#HR, H⟩ Hk
  iapply (step_send m ρ K c 1 (by decide) (by decide) _ (dev8_eq c) _ _ sendq_1 (recvq c)) $$ [H]
  · isplitr; · iexact HR
    iexact H
  iintro H
  iapply (step_send m ρ K c 2 (by decide) (by decide) _ (dev9_eq c) _ _ sendq_2 (recvq c)) $$ [H]
  · isplitr; · iexact HR
    iexact H
  iintro H
  rw [wp_ret]; imodintro
  iapply Hk; iexact H

set_option maxHeartbeats 1600000 in
theorem part13_spec (v2 : BitVec 32) (Q : PUnit → sProp 𝕄) :
    iprop(records m ρ K ∗ SND m ρ c 3) ⊢ iprop((SND m ρ c 6 -∗ Q ⟨⟩) -∗ Θ (k0_part13 xM (Memref.isWhole_whole _) oM (Memref.isWhole_whole _) gM (Memref.isWhole_whole _) cc0_scratch1 cc0_scratch2 c v2) Q) := by
  rw [k0_part13_eq_skeleton]; unfold k0_part13_skel
  simp only [semSignalWord, semWaitWord, Prog.lift, Prog.bind_op, Prog.bind_ret, Prog.pure_eq_ret, wp_deviceId]
  iintro ⟨#HR, H⟩ Hk
  iapply (step_send m ρ K c 3 (by decide) (by decide) _ (dev10_eq c) _ _ sendq_3 (recvq c)) $$ [H]
  · isplitr; · iexact HR
    iexact H
  iintro H
  iapply (step_send m ρ K c 4 (by decide) (by decide) _ (dev11_eq c) _ _ sendq_4 (recvq c)) $$ [H]
  · isplitr; · iexact HR
    iexact H
  iintro H
  iapply (step_send m ρ K c 5 (by decide) (by decide) _ (dev12_eq c) _ _ sendq_5 (recvq c)) $$ [H]
  · isplitr; · iexact HR
    iexact H
  iintro H
  rw [wp_ret]; imodintro
  iapply Hk; iexact H

theorem rcv_intro : iprop(ow c 0 ∗ bigSep (ge c 1) (awaitR (F := F) c)) ⊢ RCV m ρ c 1 := by
  unfold RCV
  rw [lo_one, bigSep_empty]
  iintro ⟨H, H'⟩
  isplitl [H]; · iexact H
  isplitl [H']; · iexact H'
  iempintro

set_option maxHeartbeats 1600000 in
theorem part14_spec (v2 : BitVec 32) (Q : PUnit → sProp 𝕄) :
    iprop(records m ρ K ∗ SND m ρ c 6 ∗ bigSep (ge c 1) (awaitR (F := F) c)) ⊢ iprop(((bigSep (lo c 8) (sent (F := F) c) ∗ RCV m ρ c 2) -∗ Q ⟨⟩) -∗ Θ (k0_part14 xM (Memref.isWhole_whole _) oM (Memref.isWhole_whole _) gM (Memref.isWhole_whole _) cc0_scratch1 cc0_scratch2 c v2) Q) := by
  rw [k0_part14_eq_skeleton]; unfold k0_part14_skel
  simp only [semSignalWord, semWaitWord, Prog.lift, Prog.bind_op, Prog.bind_ret, Prog.pure_eq_ret, wp_deviceId]
  iintro ⟨#HR, H, Ha⟩ Hk
  iapply (step_send m ρ K c 6 (by decide) (by decide) _ (dev13_eq c) _ _ sendq_6 (recvq c)) $$ [H]
  · isplitr; · iexact HR
    iexact H
  iintro H
  iapply (step_send m ρ K c 7 (by decide) (by decide) _ (dev14_eq c) _ _ sendq_7 (recvq c)) $$ [H]
  · isplitr; · iexact HR
    iexact H
  iintro H
  unfold SND
  rw [oweR_eight]
  icases H with ⟨HO, -, Hsent⟩
  ihave H := (rcv_intro m ρ c) $$ [HO Ha]
  · isplitl [HO] <;> iassumption
  iapply (step_recv m ρ K c 1 (by decide) (by decide) _ (waitq c 0)) $$ [H]
  · isplitr; · iexact HR
    iexact H
  iintro H
  rw [wp_ret]; imodintro
  iapply Hk
  isplitl [Hsent] <;> iassumption

set_option maxHeartbeats 1600000 in
theorem part15_spec (v2 : BitVec 32) (Q : PUnit → sProp 𝕄) :
    iprop(records m ρ K ∗ RCV m ρ c 2) ⊢ iprop((RCV m ρ c 5 -∗ Q ⟨⟩) -∗ Θ (k0_part15 xM (Memref.isWhole_whole _) oM (Memref.isWhole_whole _) gM (Memref.isWhole_whole _) cc0_scratch1 cc0_scratch2 c v2) Q) := by
  rw [k0_part15_eq_skeleton]; unfold k0_part15_skel
  simp only [semSignalWord, semWaitWord, Prog.lift, Prog.bind_op, Prog.bind_ret, Prog.pure_eq_ret, wp_deviceId]
  iintro ⟨#HR, H⟩ Hk
  iapply (step_recv m ρ K c 2 (by decide) (by decide) _ (waitq c 1)) $$ [H]
  · isplitr; · iexact HR
    iexact H
  iintro H
  iapply (step_recv m ρ K c 3 (by decide) (by decide) _ (waitq c 2)) $$ [H]
  · isplitr; · iexact HR
    iexact H
  iintro H
  iapply (step_recv m ρ K c 4 (by decide) (by decide) _ (waitq c 3)) $$ [H]
  · isplitr; · iexact HR
    iexact H
  iintro H
  rw [wp_ret]; imodintro
  iapply Hk; iexact H

set_option maxHeartbeats 1600000 in
theorem part16_spec (v2 : BitVec 32) (Q : (Σ' (_ : Vec F S8x512x16 .f32) (_ : FVec F S512x16 .f32) (_ : FVec F S512x16 .f32), FVec F S512x16 .f32) → sProp 𝕄)
    (R : sProp 𝕄) (hR : iprop(R ∗ RCV m ρ c 8) ⊢ iprop((((c : Thread nD τ).loc cc0_scratch0) ↦{keepQ} gat m ρ) ∗ ((((c : Thread nD τ).loc cc0_scratch0) ↦{keepQ} gat m ρ) -∗ R ∗ RCV m ρ c 8))) :
    iprop(records m ρ K ∗ R ∗ RCV m ρ c 5)
      ⊢ iprop(((R ∗ RCV m ρ c 8) -∗ Q ⟨gat m ρ, k0_pay341 (gat m ρ), k0_pay342 (gat m ρ), k0_pay343 (gat m ρ)⟩)
        -∗ Θ (k0_part16 xM (Memref.isWhole_whole _) oM (Memref.isWhole_whole _) gM (Memref.isWhole_whole _) cc0_scratch1 cc0_scratch2 c v2) Q) := by
  rw [k0_part16_eq_skeleton]; unfold k0_part16_skel
  simp only [semSignalWord, semWaitWord, Prog.lift, Prog.bind_op, Prog.bind_ret, Prog.pure_eq_ret, wp_deviceId]
  iintro ⟨#HR, Hr, H⟩ Hk
  iapply (step_recv m ρ K c 5 (by decide) (by decide) _ (waitq c 4)) $$ [H]
  · isplitr; · iexact HR
    iexact H
  iintro H
  iapply (step_recv m ρ K c 6 (by decide) (by decide) _ (waitq c 5)) $$ [H]
  · isplitr; · iexact HR
    iexact H
  iintro H
  iapply (step_recv m ρ K c 7 (by decide) (by decide) _ (waitq c 6)) $$ [H]
  · isplitr; · iexact HR
    iexact H
  iintro H
  ihave Hb := hR $$ [Hr H]
  · isplitl [Hr] <;> iassumption
  icases Hb with ⟨Hg, Hback⟩
  iapply (wp_load 𝒱₀ (c : Thread nD τ) none Set.univ (m := gM) (Finset.subset_univ _)) $$ Hg; iintro Hg
  rw [read_g, wp_ret]; imodintro
  iapply Hk
  iapply Hback; iexact Hg

set_option maxHeartbeats 1600000 in
theorem part19_spec (f : (cc0_stg1_0 : Ref sig .tc).ty.Contents (Elt F)) (Q : PUnit → sProp 𝕄) :
    iprop(records m ρ K ∗ LFT m ρ c 1 ∗ (((c : Thread nD τ).loc cc0_stg1_0) ↦{fullShare} f))
      ⊢ iprop(((LFT m ρ c 3 ∗ (((c : Thread nD τ).loc cc0_stg1_0) ↦{fullShare} (outV (gat m ρ) : (cc0_stg1_0 : Ref sig .tc).ty.Contents (Elt F)))) -∗ Q ⟨⟩)
        -∗ Θ (k0_part19 xM (Memref.isWhole_whole _) oM (Memref.isWhole_whole _) gM (Memref.isWhole_whole _) cc0_scratch1 cc0_scratch2 c (z743 (gat m ρ)) (z744 (gat m ρ)) (z750 (gat m ρ)) (z756 (gat m ρ)) (z762 (gat m ρ)) (z768 (gat m ρ)) (z774 (gat m ρ)) (z780 (gat m ρ)) (z786 (gat m ρ)) (z792 (gat m ρ)) (z798 (gat m ρ)) (z804 (gat m ρ)) (z810 (gat m ρ)) (z816 (gat m ρ)) (z822 (gat m ρ)) (z825 (gat m ρ))) Q) := by
  rw [k0_part19_eq_skeleton]; unfold k0_part19_skel
  simp only [semSignalWord, semWaitWord, Prog.lift, Prog.bind_op, Prog.bind_ret, Prog.pure_eq_ret, wp_deviceId]
  iintro ⟨#HR, H, Hout⟩ Hk
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  iapply (step_left m ρ K c 1 (by decide) (by decide) _ sendq_1) $$ [H]
  · isplitr; · iexact HR
    iexact H
  iintro H
  iapply (step_left m ρ K c 2 (by decide) (by decide) _ sendq_2) $$ [H]
  · isplitr; · iexact HR
    iexact H
  iintro H
  rw [wp_ret]; imodintro
  iapply Hk
  isplitl [H]; · iexact H
  iexact Hout

set_option maxHeartbeats 1600000 in
theorem part20_spec  (Q : PUnit → sProp 𝕄) :
    iprop(records m ρ K ∗ LFT m ρ c 3) ⊢ iprop((LFT m ρ c 7 -∗ Q ⟨⟩) -∗ Θ (k0_part20 xM (Memref.isWhole_whole _) oM (Memref.isWhole_whole _) gM (Memref.isWhole_whole _) cc0_scratch1 cc0_scratch2 c) Q) := by
  rw [k0_part20_eq_skeleton]; unfold k0_part20_skel
  simp only [semSignalWord, semWaitWord, Prog.lift, Prog.bind_op, Prog.bind_ret, Prog.pure_eq_ret, wp_deviceId]
  iintro ⟨#HR, H⟩ Hk
  iapply (step_left m ρ K c 3 (by decide) (by decide) _ sendq_3) $$ [H]
  · isplitr; · iexact HR
    iexact H
  iintro H
  iapply (step_left m ρ K c 4 (by decide) (by decide) _ sendq_4) $$ [H]
  · isplitr; · iexact HR
    iexact H
  iintro H
  iapply (step_left m ρ K c 5 (by decide) (by decide) _ sendq_5) $$ [H]
  · isplitr; · iexact HR
    iexact H
  iintro H
  iapply (step_left m ρ K c 6 (by decide) (by decide) _ sendq_6) $$ [H]
  · isplitr; · iexact HR
    iexact H
  iintro H
  rw [wp_ret]; imodintro
  iapply Hk; iexact H

end Parts

end Cert.TopK

end
-- ==== Proof.Body.lean ====
/-
# The body of the kernel

What a device's run of the body starts from, what it leaves, and the run itself, put together from the parts.
-/
module

public import proofs.«01_k».proof.Proof.Parts
public import proofs.«01_k».proof.Proof.Gen.KernelIdeal.Points

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and what it leaves -/

/-- What device `c`'s body starts from, at the names `K` of the cells' invariants. -/
def startK (K : CK → ℕ) (c : Dev nD) : sProp 𝕄 :=
  iprop(records m ρ K ∗ levAts L lv
    ∗ atPos ER (barCell c) 0 ∅ 0
    ∗ (bigSep Finset.univ fun s => atPos ER (sendCell c s) 0 ∅ 0)
    ∗ (bigSep Finset.univ fun s => atPos ER (recvCell c s) 0 ∅ 0)
    ∗ (bigSep (Finset.univ.erase c) fun s => dutyTok ER (barCell s) 0 c)
    ∗ (bigSep (Finset.univ.erase c) fun s => dutyTok ER (recvCell s c) 0 0)
    ∗ (bigSep (Finset.univ.erase c) fun s => dutyTok ER (sendCell c s) 0 0)
    ∗ cred (tallyAt (barCell c) () 7)
    ∗ (bigSep (Finset.univ.erase c) fun s => cred (tallyAt (recvCell c s) () N)))

def start (c : Dev nD) : sProp 𝕄 := iprop(∃ K, startK m ρ K c)

def scr (c : Dev nD) (f : (cc0_scratch0 : Ref sig .tc).ty.Contents (Elt F)) : sProp 𝕄 := ((c : Thread nD τ).loc cc0_scratch0) ↦{fullShare} f

def Φ₀ (c : Dev nD) : sProp 𝕄 := iprop(start m ρ c ∗ ∃ f, scr c f)
/-- After the body: the eight slots as gathered, and every semaphore at zero. -/
def Φ₁ (c : Dev nD) : sProp 𝕄 :=
  iprop(scr c (gat m ρ) ∗ semVal (barCell c) 0 ∗ (bigSep Finset.univ fun s => semVal (sendCell c s) 0) ∗ (bigSep Finset.univ fun s => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV (gat m ρ)
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## From one stretch of the body to the next -/

section Between

variable (c : Dev nD)

theorem sig_intro : iprop(ow c (O₀ c) ∗ (bigSep (Finset.univ.erase c) fun s => dutyTok ER (barCell s) 0 c)
    ∗ (bigSep (Finset.univ.erase c) fun s => iprop(∃ f, slotPts (F := F) c s fullShare f))) ⊢ SIG c 1 := by
  unfold SIG sigs O₀
  rw [ge_one, bigSep_sep']

theorem slots_some (f : (cc0_scratch0 : Ref sig .tc).ty.Contents (Elt F)) :
    (bigSep (Finset.univ.erase c) fun s => slotPts c s fullShare f : sProp 𝕄) ⊢ bigSep (Finset.univ.erase c) fun s => iprop(∃ f, slotPts c s fullShare f) := by
  have h : ∀ s : Dev nD, (slotPts c s fullShare f : sProp 𝕄) ⊢ iprop(∃ f, slotPts c s fullShare f) := fun s => by
    iintro H; iexists f; iexact H
  exact bigSep_mono fun s _ => h s

theorem snd_intro : iprop(ow c (oweR c 1) ∗ (bigSep (Finset.univ.erase c) fun s => dutyTok ER (recvCell s c) 0 0)
    ∗ (bigSep (Finset.univ.erase c) fun s => dutyTok ER (sendCell c s) 0 0)
    ∗ (bigSep (ge c 1) fun s => iprop(∃ f, slotPts (F := F) s c fullShare f))
    ∗ (bigSep (Finset.univ.erase c) fun s => slotPts c c (tokQ s) (gat m ρ))) ⊢ SND m ρ c 1 := by
  unfold SND snds
  rw [ge_one, lo_one, bigSep_empty, bigSep_sep', bigSep_sep', bigSep_sep']
  iintro ⟨H1, H2, H3, H4, H5⟩
  isplitl [H1]; · iexact H1
  isplitl
  · isplitl [H2]; · iexact H2
    isplitl [H3]; · iexact H3
    isplitl [H4] <;> iassumption
  iempintro

theorem awaitR_intro : iprop((bigSep (Finset.univ.erase c) fun s => cred (tallyAt (recvCell c s) () N))
    ∗ (bigSep (Finset.univ.erase c) fun s => atPos ER (recvCell c s) 0 ∅ 0)) ⊢ (bigSep (ge c 1) (awaitR c) : sProp 𝕄) := by
  unfold awaitR
  rw [ge_one, bigSep_sep']

theorem rcv_elim : RCV m ρ c 8 ⊢ iprop(ow c 0 ∗ (bigSep (Finset.univ.erase c) fun s => atPos ER (recvCell c s) (0 + 1) ∅ 0)
    ∗ (bigSep (Finset.univ.erase c) fun s => slotPts c s fullShare (gat m ρ))) := by
  unfold RCV gotR
  rw [ge_eight, lo_eight, bigSep_empty, bigSep_sep']
  iintro ⟨H1, -, H2⟩
  isplitl [H1]; · iexact H1
  iexact H2

theorem rcv_back : iprop(ow c 0 ∗ (bigSep (Finset.univ.erase c) fun s => atPos ER (recvCell c s) (0 + 1) ∅ 0)
    ∗ (bigSep (Finset.univ.erase c) fun s => slotPts c s fullShare (gat m ρ))) ⊢ RCV m ρ c 8 := by
  unfold RCV gotR
  rw [ge_eight, lo_eight, bigSep_empty, bigSep_sep']
  iintro ⟨H1, H2⟩
  isplitl [H1]; · iexact H1
  isplitr; · iempintro
  iexact H2

/-- With every slot received, the whole buffer can be read through the left halves of the slots. -/
theorem read_all : iprop(slotPts c c keepQ (gat m ρ) ∗ RCV m ρ c 8)
    ⊢ iprop((((c : Thread nD τ).loc cc0_scratch0) ↦{keepQ} gat m ρ)
        ∗ ((((c : Thread nD τ).loc cc0_scratch0) ↦{keepQ} gat m ρ) -∗ slotPts c c keepQ (gat m ρ) ∗ RCV m ρ c 8)) := by
  rw [whole_slots c keepQ, bigSep_univ_at _ c]
  iintro ⟨Hk, HR⟩
  ihave H := (rcv_elim m ρ c) $$ HR
  icases H with ⟨HO, Hat, Hs⟩
  ihave Hs' := (Entails.of_eq ((bigSep_congr fun s _ => slot_halves c s (gat m ρ)).trans (bigSep_sep' (Finset.univ.erase c) _ _))) $$ Hs
  icases Hs' with ⟨Hl, Hr⟩
  isplitl [Hk Hl]
  · isplitl [Hk] <;> iassumption
  iintro ⟨Hk, Hl⟩
  isplitl [Hk]; · iexact Hk
  iapply (rcv_back m ρ c)
  isplitl [HO]; · iexact HO
  isplitl [Hat]; · iexact Hat
  iapply (Entails.of_eq ((bigSep_congr fun s _ => slot_halves c s (gat m ρ)).trans (bigSep_sep' (Finset.univ.erase c) _ _)).symm)
  isplitl [Hl] <;> iassumption

theorem lft_intro : iprop(ow c 0 ∗ (bigSep (Finset.univ.erase c) fun s => atPos ER (sendCell c s) 0 ∅ 0) ∗ bigSep (lo c 8) (sent (F := F) c)) ⊢ LFT m ρ c 1 := by
  unfold LFT awaitS sent
  rw [ge_one, lo_eight, lo_one, bigSep_empty, bigSep_sep']
  iintro ⟨H1, H2, H3⟩
  isplitl [H1]; · iexact H1
  isplitl
  · isplitl [H3] <;> iassumption
  iempintro

theorem lft_elim : LFT m ρ c 8 ⊢ iprop(ow c 0 ∗ (bigSep (Finset.univ.erase c) fun s => atPos ER (sendCell c s) (0 + 1) ∅ 0)
    ∗ (bigSep (Finset.univ.erase c) fun s => slotPts c c (tokQ s) (gat m ρ))) := by
  unfold LFT gotS
  rw [ge_eight, lo_eight, bigSep_empty, bigSep_sep']
  iintro ⟨H1, -, H2⟩
  isplitl [H1]; · iexact H1
  iexact H2

/-- The slots and shares put back together. -/
theorem gather : iprop(slotPts c c keepQ (gat m ρ) ∗ slotPts c c dropQ (gat m ρ) ∗ slotPts c c (tokQ c) (gat m ρ)
    ∗ (bigSep (Finset.univ.erase c) fun s => slotPts c c (tokQ s) (gat m ρ))
    ∗ (bigSep (Finset.univ.erase c) fun s => slotPts c s fullShare (gat m ρ))) ⊢ scr c (gat m ρ) := by
  unfold scr
  rw [whole_slots c fullShare, bigSep_univ_at _ c, slot_halves c c, slot_deal c]
  iintro ⟨H1, H2, H3, H4, H5⟩
  isplitr [H5]
  · isplitl [H1]; · iexact H1
    isplitl [H2]; · iexact H2
    isplitl [H3] <;> iassumption
  iexact H5

theorem close_send (K : CK → ℕ) : iprop(records m ρ K ∗ atPos ER (sendCell c c) 0 ∅ 0
    ∗ (bigSep (Finset.univ.erase c) fun s => atPos ER (sendCell c s) (0 + 1) ∅ 0))
    ⊢ |={Set.univ}=> (bigSep Finset.univ fun s => semVal (sendCell c s) 0 : sProp 𝕄) := by
  rw [bigSep_univ_at _ c]
  iintro ⟨#HR, H1, H2⟩
  imod (Rounds.cell_close ER (Rd m ρ) (g := sendCell c c) (Set.mem_univ (K (sendK c c))) (fun h => h) (R := 0) (duties_send_self m ρ c)) $$ [H1] with Hz
  · isplitr; · iapply (inv_at m ρ K (sendK c c)); iexact HR
    iexact H1
  imod ((bigSep_with_persistent (R := records m ρ K) (S := Finset.univ.erase c) (Φ := fun s => (atPos ER (sendCell c s) (0 + 1) ∅ 0 : sProp 𝕄))
      (Ψ := fun s => iprop(|={Set.univ}=> semVal (sendCell c s) 0)) fun s _ =>
        (sep_mono_left (inv_at m ρ K (sendK c s))).trans
          (Rounds.cell_close ER (Rd m ρ) (g := sendCell c s) (Set.mem_univ (K (sendK c s))) (fun h => h) (R := 0 + 1) (duties_later m ρ (sendCell c s)))).trans
      (bigSep_fupd _ _)) $$ [H2] with Hz2
  · isplitr; · iexact HR
    iexact H2
  imodintro
  isplitl [Hz] <;> iassumption

theorem close_recv (K : CK → ℕ) : iprop(records m ρ K ∗ atPos ER (recvCell c c) 0 ∅ 0
    ∗ (bigSep (Finset.univ.erase c) fun s => atPos ER (recvCell c s) (0 + 1) ∅ 0))
    ⊢ |={Set.univ}=> (bigSep Finset.univ fun s => semVal (recvCell c s) 0 : sProp 𝕄) := by
  rw [bigSep_univ_at _ c]
  iintro ⟨#HR, H1, H2⟩
  imod (Rounds.cell_close ER (Rd m ρ) (g := recvCell c c) (Set.mem_univ (K (recvK c c))) (fun h => h) (R := 0) (duties_recv_self m ρ c)) $$ [H1] with Hz
  · isplitr; · iapply (inv_at m ρ K (recvK c c)); iexact HR
    iexact H1
  imod ((bigSep_with_persistent (R := records m ρ K) (S := Finset.univ.erase c) (Φ := fun s => (atPos ER (recvCell c s) (0 + 1) ∅ 0 : sProp 𝕄))
      (Ψ := fun s => iprop(|={Set.univ}=> semVal (recvCell c s) 0)) fun s _ =>
        (sep_mono_left (inv_at m ρ K (recvK c s))).trans
          (Rounds.cell_close ER (Rd m ρ) (g := recvCell c s) (Set.mem_univ (K (recvK c s))) (fun h => h) (R := 0 + 1) (duties_later m ρ (recvCell c s)))).trans
      (bigSep_fupd _ _)) $$ [H2] with Hz2
  · isplitr; · iexact HR
    iexact H2
  imodintro
  isplitl [Hz] <;> iassumption

end Between

/-! ## The body -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : CK → ℕ) (c : Dev nD) : sProp 𝕄 :=
  iprop((startK m ρ K c ∗ ∃ f, scr c f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

section Glue

variable (pend : Dev nD → Prog (TpuEff nD τ sig (Elt F) Λ₀ .tc) PUnit)
    (p1 : Prog (TpuEff nD τ sig (Elt F) Λ₀ .tc) (Σ' (d0 : Dev nD) (v2 : BitVec 32) (v3 : Sems sig S_) (v24 : BitVec 32), BitVec 32))
    (p2 : Dev nD → BitVec 32 → Sems sig S_ → BitVec 32 → BitVec 32 → Prog (TpuEff nD τ sig (Elt F) Λ₀ .tc) (Σ' (v34 : FVec F S512x128 .bf16) (v35 : FVec F S512x128 .bf16) (v36 : FVec F S512x128 .bf16) (v37 : FVec F S512x128 .bf16) (v38 : FVec F S512x128 .bf16) (v39 : FVec F S512x128 .bf16) (v40 : FVec F S512x128 .bf16) (v41 : FVec F S512x128 .bf16) (v42 : FVec F S512x128 .bf16) (v43 : FVec F S512x128 .bf16) (v44 : FVec F S512x128 .bf16) (v45 : FVec F S512x128 .bf16) (v46 : FVec F S512x128 .bf16) (v47 : FVec F S512x128 .bf16) (v48 : FVec F S512x128 .bf16) (v49 : FVec F S512x128 .bf16) (v50 : FVec F S512x128 .bf16) (v51 : FVec F S512x128 .bf16) (v52 : FVec F S512x128 .bf16) (v53 : FVec F S512x128 .bf16) (v54 : FVec F S512x128 .bf16) (v55 : FVec F S512x128 .bf16) (v56 : FVec F S512x128 .bf16) (v57 : FVec F S512x128 .bf16) (v58 : FVec F S512x128 .bf16) (v59 : FVec F S512x128 .bf16) (v60 : FVec F S512x128 .bf16) (v61 : FVec F S512x128 .bf16) (v62 : FVec F S512x128 .bf16) (v63 : FVec F S512x128 .bf16) (v64 : FVec F S512x128 .bf16) (v65 : FVec F S512x128 .bf16) (v66 : FVec F S512x128 .f32), FVec F S512x128 .f32))
    (p3 : FVec F S512x128 .bf16 → FVec F S512x128 .bf16 → FVec F S512x128 .bf16 → FVec F S512x128 .bf16 → FVec F S512x128 .bf16 → FVec F S512x128 .bf16 → FVec F S512x128 .bf16 → FVec F S512x128 .f32 → FVec F S512x128 .f32 → Prog (TpuEff nD τ sig (Elt F) Λ₀ .tc) (Σ' (v114 : FVec F S512x128 .bf16) (v117 : FVec F S512x128 .f32) (v120 : FVec F S512x128 .f32) (v122 : FVec F S512x128 .f32) (v124 : FVec F S512x128 .f32), FVec F S512x128 .bf16))
    (p4 : FVec F S512x128 .bf16 → FVec F S512x128 .bf16 → FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .f32 → FVec F S512x128 .bf16 → Prog (TpuEff nD τ sig (Elt F) Λ₀ .tc) (Σ' (v175 : FVec F S512x128 .f32) (v177 : FVec F S512x128 .f32) (v179 : FVec F S512x128 .f32) (v180 : FVec F S512x128 .bf16) (v183 : FVec F S512x128 .f32), FVec F S512x128 .f32))
    (p5 : FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .bf16 → FVec F S512x128 .f32 → FVec F S512x128 .f32 → Prog (TpuEff nD τ sig (Elt F) Λ₀ .tc) (Σ' (v235 : FVec F S512x128 .bf16) (v238 : FVec F S512x128 .f32) (v241 : FVec F S512x128 .f32) (v243 : FVec F S512x128 .f32), FVec F S512x128 .f32))
    (p6 : FVec F S512x128 .bf16 → FVec F S512x128 .bf16 → FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .f32 → Prog (TpuEff nD τ sig (Elt F) Λ₀ .tc) (Σ' (v293 : FVec F S512x128 .f32) (v296 : FVec F S512x128 .f32) (v298 : FVec F S512x128 .f32) (v300 : FVec F S512x128 .f32) (v301 : FVec F S512x128 .bf16) (v304 : FVec F S512x128 .f32), FVec F S512x128 .f32))
    (p7 : FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .f32 → FVec F S512x128 .bf16 → FVec F S512x128 .f32 → FVec F S512x128 .f32 → Prog (TpuEff nD τ sig (Elt F) Λ₀ .tc) (Σ' (v355 : FVec F S512x128 .f32) (v356 : FVec F S512x128 .bf16) (v359 : FVec F S512x128 .f32) (v362 : FVec F S512x128 .f32) (v364 : FVec F S512x128 .f32), FVec F S512x128 .f32))
    (p8 : FVec F S512x128 .bf16 → FVec F S512x128 .bf16 → FVec F S512x128 .bf16 → FVec F S512x128 .bf16 → FVec F S512x128 .f32 → FVec F S512x128 .bf16 → FVec F S512x128 .f32 → FVec F S512x128 .f32 → FVec F S512x128 .f32 → FVec F S512x128 .f32 → Prog (TpuEff nD τ sig (Elt F) Λ₀ .tc) (Σ' (v411 : FVec F S512 .bf16) (v416 : FVec F S512x128 .f32) (v417 : FVec F S512x128 .f32) (v418 : FVec F S512x128 .f32) (v419 : FVec F S512x128 .f32) (v421 : FVec F S512x128 .f32), FVec F S512 .f32))
    (p9 : FVec F S512x128 .f32 → FVec F S512x128 .f32 → FVec F S512x128 .f32 → FVec F S512x128 .f32 → FVec F S512x128 .f32 → FVec F S512 .f32 → Prog (TpuEff nD τ sig (Elt F) Λ₀ .tc) (Σ' (v432 : FVec F S512 .f32) (v442 : FVec F S512 .f32) (v452 : FVec F S512 .f32) (v462 : FVec F S512 .f32) (v466 : FVec F S512x128 .f32) (v467 : FVec F S512x128 .f32) (v468 : FVec F S512x128 .f32) (v469 : FVec F S512x128 .f32) (v471 : FVec F S512x128 .f32), FVec F S512 .f32))
    (p10 : FVec F S512x128 .f32 → FVec F S512x128 .f32 → FVec F S512x128 .f32 → FVec F S512x128 .f32 → FVec F S512x128 .f32 → FVec F S512 .f32 → Prog (TpuEff nD τ sig (Elt F) Λ₀ .tc) (Σ' (v482 : FVec F S512 .f32) (v492 : FVec F S512 .f32) (v502 : FVec F S512 .f32) (v512 : FVec F S512 .f32) (v516 : FVec F S512x128 .f32) (v517 : FVec F S512x128 .f32) (v518 : FVec F S512x128 .f32) (v519 : FVec F S512x128 .f32) (v521 : FVec F S512x128 .f32), FVec F S512 .f32))
    (p11 : Dev nD → BitVec 32 → FVec F S512 .bf16 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512x128 .f32 → FVec F S512x128 .f32 → FVec F S512x128 .f32 → FVec F S512x128 .f32 → FVec F S512x128 .f32 → FVec F S512 .f32 → Prog (TpuEff nD τ sig (Elt F) Λ₀ .tc) (BitVec 32))
    (p12 : Dev nD → BitVec 32 → BitVec 32 → Prog (TpuEff nD τ sig (Elt F) Λ₀ .tc) (PUnit))
    (p13 : Dev nD → BitVec 32 → Prog (TpuEff nD τ sig (Elt F) Λ₀ .tc) (PUnit))
    (p14 : Dev nD → BitVec 32 → Prog (TpuEff nD τ sig (Elt F) Λ₀ .tc) (PUnit))
    (p15 : Dev nD → BitVec 32 → Prog (TpuEff nD τ sig (Elt F) Λ₀ .tc) (PUnit))
    (p16 : Dev nD → BitVec 32 → Prog (TpuEff nD τ sig (Elt F) Λ₀ .tc) (Σ' (v726 : Vec F S8x512x16 .f32) (v728 : FVec F S512x16 .f32) (v730 : FVec F S512x16 .f32), FVec F S512x16 .f32))
    (p17 : Vec F S8x512x16 .f32 → FVec F S512x16 .f32 → FVec F S512x16 .f32 → FVec F S512x16 .f32 → Prog (TpuEff nD τ sig (Elt F) Λ₀ .tc) (Σ' (v743 : FVec F S512x128 .f32) (v744 : FVec F S512 .f32) (v750 : FVec F S512 .f32) (v756 : FVec F S512 .f32) (v762 : FVec F S512 .f32) (v768 : FVec F S512 .f32) (v774 : FVec F S512 .f32), FVec F S512x128 .f32))
    (p18 : FVec F S512x128 .f32 → FVec F S512x128 .f32 → Prog (TpuEff nD τ sig (Elt F) Λ₀ .tc) (Σ' (v780 : FVec F S512 .f32) (v786 : FVec F S512 .f32) (v792 : FVec F S512 .f32) (v798 : FVec F S512 .f32) (v804 : FVec F S512 .f32) (v810 : FVec F S512 .f32) (v816 : FVec F S512 .f32) (v822 : FVec F S512 .f32), IVec S512x128 1))
    (p19 : Dev nD → FVec F S512x128 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → IVec S512x128 1 → Prog (TpuEff nD τ sig (Elt F) Λ₀ .tc) (PUnit))
    (p20 : Dev nD → Prog (TpuEff nD τ sig (Elt F) Λ₀ .tc) (PUnit))

/-- The body, as a sequence of parts. -/
def bodyOf : Prog (TpuEff nD τ sig (Elt F) Λ₀ .tc) PUnit := do
  let ⟨d0, v2, v3, v24, c8_i32_20⟩ : Σ' (d0 : Dev nD) (v2 : BitVec 32) (v3 : Sems sig S_) (v24 : BitVec 32), BitVec 32 ← p1
  let ⟨v34, v35, v36, v37, v38, v39, v40, v41, v42, v43, v44, v45, v46, v47, v48, v49, v50, v51, v52, v53, v54, v55, v56, v57, v58, v59, v60, v61, v62, v63, v64, v65, v66, v67⟩ : Σ' (v34 : FVec F S512x128 .bf16) (v35 : FVec F S512x128 .bf16) (v36 : FVec F S512x128 .bf16) (v37 : FVec F S512x128 .bf16) (v38 : FVec F S512x128 .bf16) (v39 : FVec F S512x128 .bf16) (v40 : FVec F S512x128 .bf16) (v41 : FVec F S512x128 .bf16) (v42 : FVec F S512x128 .bf16) (v43 : FVec F S512x128 .bf16) (v44 : FVec F S512x128 .bf16) (v45 : FVec F S512x128 .bf16) (v46 : FVec F S512x128 .bf16) (v47 : FVec F S512x128 .bf16) (v48 : FVec F S512x128 .bf16) (v49 : FVec F S512x128 .bf16) (v50 : FVec F S512x128 .bf16) (v51 : FVec F S512x128 .bf16) (v52 : FVec F S512x128 .bf16) (v53 : FVec F S512x128 .bf16) (v54 : FVec F S512x128 .bf16) (v55 : FVec F S512x128 .bf16) (v56 : FVec F S512x128 .bf16) (v57 : FVec F S512x128 .bf16) (v58 : FVec F S512x128 .bf16) (v59 : FVec F S512x128 .bf16) (v60 : FVec F S512x128 .bf16) (v61 : FVec F S512x128 .bf16) (v62 : FVec F S512x128 .bf16) (v63 : FVec F S512x128 .bf16) (v64 : FVec F S512x128 .bf16) (v65 : FVec F S512x128 .bf16) (v66 : FVec F S512x128 .f32), FVec F S512x128 .f32 ← p2 d0 v2 v3 v24 c8_i32_20
  let ⟨v114, v117, v120, v122, v124, v125⟩ : Σ' (v114 : FVec F S512x128 .bf16) (v117 : FVec F S512x128 .f32) (v120 : FVec F S512x128 .f32) (v122 : FVec F S512x128 .f32) (v124 : FVec F S512x128 .f32), FVec F S512x128 .bf16 ← p3 v34 v35 v36 v37 v38 v39 v40 v66 v67
  let ⟨v175, v177, v179, v180, v183, v185⟩ : Σ' (v175 : FVec F S512x128 .f32) (v177 : FVec F S512x128 .f32) (v179 : FVec F S512x128 .f32) (v180 : FVec F S512x128 .bf16) (v183 : FVec F S512x128 .f32), FVec F S512x128 .f32 ← p4 v40 v41 v42 v43 v44 v45 v114 v117 v120 v122 v124 v125
  let ⟨v235, v238, v241, v243, v245⟩ : Σ' (v235 : FVec F S512x128 .bf16) (v238 : FVec F S512x128 .f32) (v241 : FVec F S512x128 .f32) (v243 : FVec F S512x128 .f32), FVec F S512x128 .f32 ← p5 v46 v47 v48 v49 v50 v175 v177 v179 v180 v183 v185
  let ⟨v293, v296, v298, v300, v301, v304, v305⟩ : Σ' (v293 : FVec F S512x128 .f32) (v296 : FVec F S512x128 .f32) (v298 : FVec F S512x128 .f32) (v300 : FVec F S512x128 .f32) (v301 : FVec F S512x128 .bf16) (v304 : FVec F S512x128 .f32), FVec F S512x128 .f32 ← p6 v51 v52 v53 v54 v55 v56 v235 v238 v241 v243 v245
  let ⟨v355, v356, v359, v362, v364, v365⟩ : Σ' (v355 : FVec F S512x128 .f32) (v356 : FVec F S512x128 .bf16) (v359 : FVec F S512x128 .f32) (v362 : FVec F S512x128 .f32) (v364 : FVec F S512x128 .f32), FVec F S512x128 .f32 ← p7 v57 v58 v59 v60 v61 v293 v296 v298 v300 v301 v304 v305
  let ⟨v411, v416, v417, v418, v419, v421, v422⟩ : Σ' (v411 : FVec F S512 .bf16) (v416 : FVec F S512x128 .f32) (v417 : FVec F S512x128 .f32) (v418 : FVec F S512x128 .f32) (v419 : FVec F S512x128 .f32) (v421 : FVec F S512x128 .f32), FVec F S512 .f32 ← p8 v62 v63 v64 v65 v355 v356 v359 v362 v364 v365
  let ⟨v432, v442, v452, v462, v466, v467, v468, v469, v471, v472⟩ : Σ' (v432 : FVec F S512 .f32) (v442 : FVec F S512 .f32) (v452 : FVec F S512 .f32) (v462 : FVec F S512 .f32) (v466 : FVec F S512x128 .f32) (v467 : FVec F S512x128 .f32) (v468 : FVec F S512x128 .f32) (v469 : FVec F S512x128 .f32) (v471 : FVec F S512x128 .f32), FVec F S512 .f32 ← p9 v416 v417 v418 v419 v421 v422
  let ⟨v482, v492, v502, v512, v516, v517, v518, v519, v521, v522⟩ : Σ' (v482 : FVec F S512 .f32) (v492 : FVec F S512 .f32) (v502 : FVec F S512 .f32) (v512 : FVec F S512 .f32) (v516 : FVec F S512x128 .f32) (v517 : FVec F S512x128 .f32) (v518 : FVec F S512x128 .f32) (v519 : FVec F S512x128 .f32) (v521 : FVec F S512x128 .f32), FVec F S512 .f32 ← p10 v466 v467 v468 v469 v471 v472
  let v573 : BitVec 32 ← p11 d0 v2 v411 v422 v432 v442 v452 v462 v472 v482 v492 v502 v512 v516 v517 v518 v519 v521 v522
  p12 d0 v2 v573
  p13 d0 v2
  p14 d0 v2
  p15 d0 v2
  let ⟨v726, v728, v730, v732⟩ : Σ' (v726 : Vec F S8x512x16 .f32) (v728 : FVec F S512x16 .f32) (v730 : FVec F S512x16 .f32), FVec F S512x16 .f32 ← p16 d0 v2
  let ⟨v743, v744, v750, v756, v762, v768, v774, v779⟩ : Σ' (v743 : FVec F S512x128 .f32) (v744 : FVec F S512 .f32) (v750 : FVec F S512 .f32) (v756 : FVec F S512 .f32) (v762 : FVec F S512 .f32) (v768 : FVec F S512 .f32) (v774 : FVec F S512 .f32), FVec F S512x128 .f32 ← p17 v726 v728 v730 v732
  let ⟨v780, v786, v792, v798, v804, v810, v816, v822, v825⟩ : Σ' (v780 : FVec F S512 .f32) (v786 : FVec F S512 .f32) (v792 : FVec F S512 .f32) (v798 : FVec F S512 .f32) (v804 : FVec F S512 .f32) (v810 : FVec F S512 .f32) (v816 : FVec F S512 .f32) (v822 : FVec F S512 .f32), IVec S512x128 1 ← p18 v743 v779
  p19 d0 v743 v744 v750 v756 v762 v768 v774 v780 v786 v792 v798 v804 v810 v816 v822 v825
  p20 d0
  pend d0

end Glue

/-- What a device holds after the body, its result being `Y`. -/
def bodyPostY (c : Dev nD) (Y : (cc0_stg1_0 : Ref sig .tc).ty.Contents (Elt F)) : sProp 𝕄 :=
  iprop(Φ₁ m ρ c ∗ (dats m ρ 0 c).owesAt () t0_0.succ ∗ stg c cc0_stg0_0 (xstg m ρ c) ∗ stg c cc0_stg1_0 (Y))

set_option maxHeartbeats 4000000 in
set_option maxRecDepth 8000 in
/-- The run of a sequence of parts, each of which does its stretch of the exchange. -/
theorem sound_glue (K : CK → ℕ) (c : Dev nD) (Kt : PUnit → sProp 𝕄) (Y : (cc0_stg1_0 : Ref sig .tc).ty.Contents (Elt F))
    (pend : Dev nD → Prog (TpuEff nD τ sig (Elt F) Λ₀ .tc) PUnit)
    (p1 : Prog (TpuEff nD τ sig (Elt F) Λ₀ .tc) (Σ' (d0 : Dev nD) (v2 : BitVec 32) (v3 : Sems sig S_) (v24 : BitVec 32), BitVec 32))
    (p2 : Dev nD → BitVec 32 → Sems sig S_ → BitVec 32 → BitVec 32 → Prog (TpuEff nD τ sig (Elt F) Λ₀ .tc) (Σ' (v34 : FVec F S512x128 .bf16) (v35 : FVec F S512x128 .bf16) (v36 : FVec F S512x128 .bf16) (v37 : FVec F S512x128 .bf16) (v38 : FVec F S512x128 .bf16) (v39 : FVec F S512x128 .bf16) (v40 : FVec F S512x128 .bf16) (v41 : FVec F S512x128 .bf16) (v42 : FVec F S512x128 .bf16) (v43 : FVec F S512x128 .bf16) (v44 : FVec F S512x128 .bf16) (v45 : FVec F S512x128 .bf16) (v46 : FVec F S512x128 .bf16) (v47 : FVec F S512x128 .bf16) (v48 : FVec F S512x128 .bf16) (v49 : FVec F S512x128 .bf16) (v50 : FVec F S512x128 .bf16) (v51 : FVec F S512x128 .bf16) (v52 : FVec F S512x128 .bf16) (v53 : FVec F S512x128 .bf16) (v54 : FVec F S512x128 .bf16) (v55 : FVec F S512x128 .bf16) (v56 : FVec F S512x128 .bf16) (v57 : FVec F S512x128 .bf16) (v58 : FVec F S512x128 .bf16) (v59 : FVec F S512x128 .bf16) (v60 : FVec F S512x128 .bf16) (v61 : FVec F S512x128 .bf16) (v62 : FVec F S512x128 .bf16) (v63 : FVec F S512x128 .bf16) (v64 : FVec F S512x128 .bf16) (v65 : FVec F S512x128 .bf16) (v66 : FVec F S512x128 .f32), FVec F S512x128 .f32))
    (p3 : FVec F S512x128 .bf16 → FVec F S512x128 .bf16 → FVec F S512x128 .bf16 → FVec F S512x128 .bf16 → FVec F S512x128 .bf16 → FVec F S512x128 .bf16 → FVec F S512x128 .bf16 → FVec F S512x128 .f32 → FVec F S512x128 .f32 → Prog (TpuEff nD τ sig (Elt F) Λ₀ .tc) (Σ' (v114 : FVec F S512x128 .bf16) (v117 : FVec F S512x128 .f32) (v120 : FVec F S512x128 .f32) (v122 : FVec F S512x128 .f32) (v124 : FVec F S512x128 .f32), FVec F S512x128 .bf16))
    (p4 : FVec F S512x128 .bf16 → FVec F S512x128 .bf16 → FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .f32 → FVec F S512x128 .bf16 → Prog (TpuEff nD τ sig (Elt F) Λ₀ .tc) (Σ' (v175 : FVec F S512x128 .f32) (v177 : FVec F S512x128 .f32) (v179 : FVec F S512x128 .f32) (v180 : FVec F S512x128 .bf16) (v183 : FVec F S512x128 .f32), FVec F S512x128 .f32))
    (p5 : FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .bf16 → FVec F S512x128 .f32 → FVec F S512x128 .f32 → Prog (TpuEff nD τ sig (Elt F) Λ₀ .tc) (Σ' (v235 : FVec F S512x128 .bf16) (v238 : FVec F S512x128 .f32) (v241 : FVec F S512x128 .f32) (v243 : FVec F S512x128 .f32), FVec F S512x128 .f32))
    (p6 : FVec F S512x128 .bf16 → FVec F S512x128 .bf16 → FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .f32 → Prog (TpuEff nD τ sig (Elt F) Λ₀ .tc) (Σ' (v293 : FVec F S512x128 .f32) (v296 : FVec F S512x128 .f32) (v298 : FVec F S512x128 .f32) (v300 : FVec F S512x128 .f32) (v301 : FVec F S512x128 .bf16) (v304 : FVec F S512x128 .f32), FVec F S512x128 .f32))
    (p7 : FVec F S512x128 .bf16 → FVec F S512x128 .bf16 → FVec F S512x128 .bf16 → FVec F S512x128 .bf16 → FVec F S512x128 .bf16 → FVec F S512x128 .f32 → FVec F S512x128 .f32 → FVec F S512x128 .f32 → FVec F S512x128 .f32 → FVec F S512x128 .bf16 → FVec F S512x128 .f32 → FVec F S512x128 .f32 → Prog (TpuEff nD τ sig (Elt F) Λ₀ .tc) (Σ' (v355 : FVec F S512x128 .f32) (v356 : FVec F S512x128 .bf16) (v359 : FVec F S512x128 .f32) (v362 : FVec F S512x128 .f32) (v364 : FVec F S512x128 .f32), FVec F S512x128 .f32))
    (p8 : FVec F S512x128 .bf16 → FVec F S512x128 .bf16 → FVec F S512x128 .bf16 → FVec F S512x128 .bf16 → FVec F S512x128 .f32 → FVec F S512x128 .bf16 → FVec F S512x128 .f32 → FVec F S512x128 .f32 → FVec F S512x128 .f32 → FVec F S512x128 .f32 → Prog (TpuEff nD τ sig (Elt F) Λ₀ .tc) (Σ' (v411 : FVec F S512 .bf16) (v416 : FVec F S512x128 .f32) (v417 : FVec F S512x128 .f32) (v418 : FVec F S512x128 .f32) (v419 : FVec F S512x128 .f32) (v421 : FVec F S512x128 .f32), FVec F S512 .f32))
    (p9 : FVec F S512x128 .f32 → FVec F S512x128 .f32 → FVec F S512x128 .f32 → FVec F S512x128 .f32 → FVec F S512x128 .f32 → FVec F S512 .f32 → Prog (TpuEff nD τ sig (Elt F) Λ₀ .tc) (Σ' (v432 : FVec F S512 .f32) (v442 : FVec F S512 .f32) (v452 : FVec F S512 .f32) (v462 : FVec F S512 .f32) (v466 : FVec F S512x128 .f32) (v467 : FVec F S512x128 .f32) (v468 : FVec F S512x128 .f32) (v469 : FVec F S512x128 .f32) (v471 : FVec F S512x128 .f32), FVec F S512 .f32))
    (p10 : FVec F S512x128 .f32 → FVec F S512x128 .f32 → FVec F S512x128 .f32 → FVec F S512x128 .f32 → FVec F S512x128 .f32 → FVec F S512 .f32 → Prog (TpuEff nD τ sig (Elt F) Λ₀ .tc) (Σ' (v482 : FVec F S512 .f32) (v492 : FVec F S512 .f32) (v502 : FVec F S512 .f32) (v512 : FVec F S512 .f32) (v516 : FVec F S512x128 .f32) (v517 : FVec F S512x128 .f32) (v518 : FVec F S512x128 .f32) (v519 : FVec F S512x128 .f32) (v521 : FVec F S512x128 .f32), FVec F S512 .f32))
    (p11 : Dev nD → BitVec 32 → FVec F S512 .bf16 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512x128 .f32 → FVec F S512x128 .f32 → FVec F S512x128 .f32 → FVec F S512x128 .f32 → FVec F S512x128 .f32 → FVec F S512 .f32 → Prog (TpuEff nD τ sig (Elt F) Λ₀ .tc) (BitVec 32))
    (p12 : Dev nD → BitVec 32 → BitVec 32 → Prog (TpuEff nD τ sig (Elt F) Λ₀ .tc) (PUnit))
    (p13 : Dev nD → BitVec 32 → Prog (TpuEff nD τ sig (Elt F) Λ₀ .tc) (PUnit))
    (p14 : Dev nD → BitVec 32 → Prog (TpuEff nD τ sig (Elt F) Λ₀ .tc) (PUnit))
    (p15 : Dev nD → BitVec 32 → Prog (TpuEff nD τ sig (Elt F) Λ₀ .tc) (PUnit))
    (p16 : Dev nD → BitVec 32 → Prog (TpuEff nD τ sig (Elt F) Λ₀ .tc) (Σ' (v726 : Vec F S8x512x16 .f32) (v728 : FVec F S512x16 .f32) (v730 : FVec F S512x16 .f32), FVec F S512x16 .f32))
    (p17 : Vec F S8x512x16 .f32 → FVec F S512x16 .f32 → FVec F S512x16 .f32 → FVec F S512x16 .f32 → Prog (TpuEff nD τ sig (Elt F) Λ₀ .tc) (Σ' (v743 : FVec F S512x128 .f32) (v744 : FVec F S512 .f32) (v750 : FVec F S512 .f32) (v756 : FVec F S512 .f32) (v762 : FVec F S512 .f32) (v768 : FVec F S512 .f32) (v774 : FVec F S512 .f32), FVec F S512x128 .f32))
    (p18 : FVec F S512x128 .f32 → FVec F S512x128 .f32 → Prog (TpuEff nD τ sig (Elt F) Λ₀ .tc) (Σ' (v780 : FVec F S512 .f32) (v786 : FVec F S512 .f32) (v792 : FVec F S512 .f32) (v798 : FVec F S512 .f32) (v804 : FVec F S512 .f32) (v810 : FVec F S512 .f32) (v816 : FVec F S512 .f32) (v822 : FVec F S512 .f32), IVec S512x128 1))
    (p19 : Dev nD → FVec F S512x128 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → FVec F S512 .f32 → IVec S512x128 1 → Prog (TpuEff nD τ sig (Elt F) Λ₀ .tc) (PUnit))
    (p20 : Dev nD → Prog (TpuEff nD τ sig (Elt F) Λ₀ .tc) (PUnit))
    (v34 v35 v36 v37 v38 v39 v40 v41 v42 v43 v44 v45 v46 v47 v48 v49 v50 v51 v52 v53 v54 v55 v56 v57 v58 v59 v60 v61 v62 v63 v64 v65 : FVec F S512x128 .bf16) (v66 v67 : FVec F S512x128 .f32) (v114 : FVec F S512x128 .bf16) (v117 v120 v122 v124 : FVec F S512x128 .f32) (v125 : FVec F S512x128 .bf16) (v175 v177 v179 : FVec F S512x128 .f32) (v180 : FVec F S512x128 .bf16) (v183 v185 : FVec F S512x128 .f32) (v235 : FVec F S512x128 .bf16) (v238 v241 v243 v245 v293 v296 v298 v300 : FVec F S512x128 .f32) (v301 : FVec F S512x128 .bf16) (v304 v305 v355 : FVec F S512x128 .f32) (v356 : FVec F S512x128 .bf16) (v359 v362 v364 v365 : FVec F S512x128 .f32) (v411 : FVec F S512 .bf16) (v416 v417 v418 v419 v421 : FVec F S512x128 .f32) (v422 v432 v442 v452 v462 : FVec F S512 .f32) (v466 v467 v468 v469 v471 : FVec F S512x128 .f32) (v472 v482 v492 v502 v512 : FVec F S512 .f32) (v516 v517 v518 v519 v521 : FVec F S512x128 .f32) (v522 : FVec F S512 .f32) (v743 : FVec F S512x128 .f32) (v744 v750 v756 v762 v768 v774 : FVec F S512 .f32) (v779 : FVec F S512x128 .f32) (v780 v786 v792 v798 v804 v810 v816 v822 : FVec F S512 .f32) (v825 : IVec S512x128 1) (v726 : Vec F S8x512x16 .f32) (v728 : FVec F S512x16 .f32) (v730 : FVec F S512x16 .f32) (v732 : FVec F S512x16 .f32)
    (H1 : ∀ Q : (Σ' (d0 : Dev nD) (v2 : BitVec 32) (v3 : Sems sig S_) (v24 : BitVec 32), BitVec 32) → sProp 𝕄, iprop(records m ρ K ∗ SIG c 1)
      ⊢ iprop((∀ v2 v24 w, SIG c 6 -∗ Q ⟨c, v2, SemArray.scalar (sig.barrier 0 rfl), v24, w⟩) -∗ wp frame (wpE (defs₀ (F := F)) 𝒱₀ (c : Thread nD τ) none) Set.univ p1 Q))
    (H2 : ∀ (v2 v24 w : BitVec 32) (Q : (Σ' (v34 : FVec F S512x128 .bf16) (v35 : FVec F S512x128 .bf16) (v36 : FVec F S512x128 .bf16) (v37 : FVec F S512x128 .bf16) (v38 : FVec F S512x128 .bf16) (v39 : FVec F S512x128 .bf16) (v40 : FVec F S512x128 .bf16) (v41 : FVec F S512x128 .bf16) (v42 : FVec F S512x128 .bf16) (v43 : FVec F S512x128 .bf16) (v44 : FVec F S512x128 .bf16) (v45 : FVec F S512x128 .bf16) (v46 : FVec F S512x128 .bf16) (v47 : FVec F S512x128 .bf16) (v48 : FVec F S512x128 .bf16) (v49 : FVec F S512x128 .bf16) (v50 : FVec F S512x128 .bf16) (v51 : FVec F S512x128 .bf16) (v52 : FVec F S512x128 .bf16) (v53 : FVec F S512x128 .bf16) (v54 : FVec F S512x128 .bf16) (v55 : FVec F S512x128 .bf16) (v56 : FVec F S512x128 .bf16) (v57 : FVec F S512x128 .bf16) (v58 : FVec F S512x128 .bf16) (v59 : FVec F S512x128 .bf16) (v60 : FVec F S512x128 .bf16) (v61 : FVec F S512x128 .bf16) (v62 : FVec F S512x128 .bf16) (v63 : FVec F S512x128 .bf16) (v64 : FVec F S512x128 .bf16) (v65 : FVec F S512x128 .bf16) (v66 : FVec F S512x128 .f32), FVec F S512x128 .f32) → sProp 𝕄),
    iprop(records m ρ K ∗ levAts L lv ∗ SIG c 6 ∗ cred (tallyAt (barCell c) () 7) ∗ atPos ER (barCell c) 0 ∅ 0 ∗ (((c : Thread nD τ).loc cc0_stg0_0) ↦{fullShare} xstg m ρ c))
      ⊢ iprop(((ow c (oweR c 1) ∗ atPos ER (barCell c) (0 + 1) ∅ 0 ∗ bigSep (ge c 1) (fun s => iprop(∃ f, slotPts (F := F) s c fullShare f))
            ∗ (((c : Thread nD τ).loc cc0_stg0_0) ↦{fullShare} xstg m ρ c))
          -∗ Q ⟨v34, v35, v36, v37, v38, v39, v40, v41, v42, v43, v44, v45, v46, v47, v48, v49, v50, v51, v52, v53, v54, v55, v56, v57, v58, v59, v60, v61, v62, v63, v64, v65, v66, v67⟩)
        -∗ wp frame (wpE (defs₀ (F := F)) 𝒱₀ (c : Thread nD τ) none) Set.univ (p2 c v2 (SemArray.scalar (sig.barrier 0 rfl)) v24 w) Q))
    (h3 : p3 v34 v35 v36 v37 v38 v39 v40 v66 v67 = .ret ⟨v114, v117, v120, v122, v124, v125⟩)
    (h4 : p4 v40 v41 v42 v43 v44 v45 v114 v117 v120 v122 v124 v125 = .ret ⟨v175, v177, v179, v180, v183, v185⟩)
    (h5 : p5 v46 v47 v48 v49 v50 v175 v177 v179 v180 v183 v185 = .ret ⟨v235, v238, v241, v243, v245⟩)
    (h6 : p6 v51 v52 v53 v54 v55 v56 v235 v238 v241 v243 v245 = .ret ⟨v293, v296, v298, v300, v301, v304, v305⟩)
    (h7 : p7 v57 v58 v59 v60 v61 v293 v296 v298 v300 v301 v304 v305 = .ret ⟨v355, v356, v359, v362, v364, v365⟩)
    (h8 : p8 v62 v63 v64 v65 v355 v356 v359 v362 v364 v365 = .ret ⟨v411, v416, v417, v418, v419, v421, v422⟩)
    (h9 : p9 v416 v417 v418 v419 v421 v422 = .ret ⟨v432, v442, v452, v462, v466, v467, v468, v469, v471, v472⟩)
    (h10 : p10 v466 v467 v468 v469 v471 v472 = .ret ⟨v482, v492, v502, v512, v516, v517, v518, v519, v521, v522⟩)
    (H11 : ∀ (v2 : BitVec 32) (f : (cc0_scratch0 : Ref sig .tc).ty.Contents (Elt F)) (Q : BitVec 32 → sProp 𝕄),
    slotPts c c fullShare f ⊢ iprop((∀ w, slotPts c c fullShare (gat m ρ) -∗ Q w) -∗ wp frame (wpE (defs₀ (F := F)) 𝒱₀ (c : Thread nD τ) none) Set.univ (p11 c v2 v411 v422 v432 v442 v452 v462 v472 v482 v492 v502 v512 v516 v517 v518 v519 v521 v522) Q))
    (H12 : ∀ (v2 w : BitVec 32) (Q : PUnit → sProp 𝕄), iprop(records m ρ K ∗ SND m ρ c 1) ⊢ iprop((SND m ρ c 3 -∗ Q ⟨⟩) -∗ wp frame (wpE (defs₀ (F := F)) 𝒱₀ (c : Thread nD τ) none) Set.univ (p12 c v2 w) Q))
    (H13 : ∀ (v2 : BitVec 32) (Q : PUnit → sProp 𝕄), iprop(records m ρ K ∗ SND m ρ c 3) ⊢ iprop((SND m ρ c 6 -∗ Q ⟨⟩) -∗ wp frame (wpE (defs₀ (F := F)) 𝒱₀ (c : Thread nD τ) none) Set.univ (p13 c v2) Q))
    (H14 : ∀ (v2 : BitVec 32) (Q : PUnit → sProp 𝕄), iprop(records m ρ K ∗ SND m ρ c 6 ∗ bigSep (ge c 1) (awaitR (F := F) c)) ⊢ iprop(((bigSep (lo c 8) (sent (F := F) c) ∗ RCV m ρ c 2) -∗ Q ⟨⟩) -∗ wp frame (wpE (defs₀ (F := F)) 𝒱₀ (c : Thread nD τ) none) Set.univ (p14 c v2) Q))
    (H15 : ∀ (v2 : BitVec 32) (Q : PUnit → sProp 𝕄), iprop(records m ρ K ∗ RCV m ρ c 2) ⊢ iprop((RCV m ρ c 5 -∗ Q ⟨⟩) -∗ wp frame (wpE (defs₀ (F := F)) 𝒱₀ (c : Thread nD τ) none) Set.univ (p15 c v2) Q))
    (H16 : ∀ (v2 : BitVec 32) (Q : (Σ' (v726 : Vec F S8x512x16 .f32) (v728 : FVec F S512x16 .f32) (v730 : FVec F S512x16 .f32), FVec F S512x16 .f32) → sProp 𝕄),
    iprop(records m ρ K ∗ slotPts c c keepQ (gat m ρ) ∗ RCV m ρ c 5) ⊢ iprop(((slotPts c c keepQ (gat m ρ) ∗ RCV m ρ c 8) -∗ Q ⟨v726, v728, v730, v732⟩) -∗ wp frame (wpE (defs₀ (F := F)) 𝒱₀ (c : Thread nD τ) none) Set.univ (p16 c v2) Q))
    (h17 : p17 v726 v728 v730 v732 = .ret ⟨v743, v744, v750, v756, v762, v768, v774, v779⟩)
    (h18 : p18 v743 v779 = .ret ⟨v780, v786, v792, v798, v804, v810, v816, v822, v825⟩)
    (H19 : ∀ (f : (cc0_stg1_0 : Ref sig .tc).ty.Contents (Elt F)) (Q : PUnit → sProp 𝕄),
    iprop(records m ρ K ∗ LFT m ρ c 1 ∗ (((c : Thread nD τ).loc cc0_stg1_0) ↦{fullShare} f))
      ⊢ iprop(((LFT m ρ c 3 ∗ (((c : Thread nD τ).loc cc0_stg1_0) ↦{fullShare} Y)) -∗ Q ⟨⟩) -∗ wp frame (wpE (defs₀ (F := F)) 𝒱₀ (c : Thread nD τ) none) Set.univ (p19 c v743 v744 v750 v756 v762 v768 v774 v780 v786 v792 v798 v804 v810 v816 v822 v825) Q))
    (H20 : ∀ Q : PUnit → sProp 𝕄, iprop(records m ρ K ∗ LFT m ρ c 3) ⊢ iprop((LFT m ρ c 7 -∗ Q ⟨⟩) -∗ wp frame (wpE (defs₀ (F := F)) 𝒱₀ (c : Thread nD τ) none) Set.univ (p20 c) Q))
    (Hend : ∀ Q : PUnit → sProp 𝕄, iprop(records m ρ K ∗ LFT m ρ c 7) ⊢ iprop((LFT m ρ c 8 -∗ |={Set.univ}=> Q ⟨⟩) -∗ wp frame (wpE (defs₀ (F := F)) 𝒱₀ (c : Thread nD τ) none) Set.univ (pend c) Q)) :
    iprop(bodyPre m ρ K c ∗ (bodyPostY m ρ c Y -∗ Kt ⟨⟩)) ⊢ wp frame (wpE (defs₀ (F := F)) 𝒱₀ (c : Thread nD τ) none) Set.univ (bodyOf pend p1 p2 p3 p4 p5 p6 p7 p8 p9 p10 p11 p12 p13 p14 p15 p16 p17 p18 p19 p20) Kt := by
  unfold bodyOf
  unfold bodyPre startK scr
  iintro ⟨⟨⟨⟨#HR, #Hlev, HatB, HatS, HatV, HtB, HtV, HtS, HcB, HcV⟩, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  -- the slots; the own one stays, the others go out with the signals
  ihave Hscr' := (Entails.of_eq ((whole_slots c fullShare f0).trans (bigSep_univ_at _ c))) $$ Hscr
  icases Hscr' with ⟨Hown, Hoth⟩
  ihave H := (sig_intro (F := F) c) $$ [HO HtB Hoth]
  · isplitl [HO]; · unfold ow; iexists W; iexact HO
    isplitl [HtB]; · iexact HtB
    ihave Hoth' := (slots_some c f0) $$ Hoth
    iexact Hoth'
  rw [wp_bind]
  iapply (H1 _) $$ [H]
  · isplitr; · iexact HR
    iexact H
  iintro %v2 %v24 %w H
  dsimp only
  rw [wp_bind]
  iapply (H2 v2 v24 w _) $$ [H HcB HatB Hx]
  · isplitr; · iexact HR
    isplitr; · iexact Hlev
    isplitl [H]; · iexact H
    isplitl [HcB]; · iexact HcB
    isplitl [HatB] <;> iassumption
  iintro ⟨HO, HatB, Hpeer, Hx⟩
  dsimp only
  simp only [h3, h4, h5, h6, h7, h8, h9, h10, Prog.bind_ret]
  rw [wp_bind]
  iapply (H11 v2 f0 _) $$ Hown
  iintro %w' Hown
  ihave Hown' := (Entails.of_eq (slot_halves c c (gat m ρ))) $$ Hown
  icases Hown' with ⟨Hkeep, Hright⟩
  ihave Hright' := (Entails.of_eq (slot_deal c (gat m ρ))) $$ Hright
  icases Hright' with ⟨Hdrop, Htokc, Htoks⟩
  ihave H := (snd_intro m ρ c) $$ [HO HtV HtS Hpeer Htoks]
  · isplitl [HO]; · iexact HO
    isplitl [HtV]; · iexact HtV
    isplitl [HtS]; · iexact HtS
    isplitl [Hpeer] <;> iassumption
  rw [wp_bind]
  iapply (H12 v2 w' _) $$ [H]
  · isplitr; · iexact HR
    iexact H
  iintro H
  rw [wp_bind]
  iapply (H13 v2 _) $$ [H]
  · isplitr; · iexact HR
    iexact H
  iintro H
  ihave HatV' := (Entails.of_eq (bigSep_univ_at (fun s => (atPos ER (recvCell c s) 0 ∅ 0 : sProp 𝕄)) c)) $$ HatV
  ihave HatS' := (Entails.of_eq (bigSep_univ_at (fun s => (atPos ER (sendCell c s) 0 ∅ 0 : sProp 𝕄)) c)) $$ HatS
  icases HatV' with ⟨HatVc, HatV⟩
  icases HatS' with ⟨HatSc, HatS⟩
  ihave Ha := (awaitR_intro (F := F) c) $$ [HcV HatV]
  · isplitl [HcV] <;> iassumption
  rw [wp_bind]
  iapply (H14 v2 _) $$ [H Ha]
  · isplitr; · iexact HR
    isplitl [H] <;> iassumption
  iintro ⟨Hsent, H⟩
  rw [wp_bind]
  iapply (H15 v2 _) $$ [H]
  · isplitr; · iexact HR
    iexact H
  iintro H
  rw [wp_bind]
  iapply (H16 v2 _) $$ [Hkeep H]
  · isplitr; · iexact HR
    isplitl [Hkeep] <;> iassumption
  iintro ⟨Hkeep, H⟩
  dsimp only
  simp only [h17, h18, Prog.bind_ret]
  ihave H' := (rcv_elim m ρ c) $$ H
  icases H' with ⟨HO, HatV, Hslots⟩
  ihave H := (lft_intro m ρ c) $$ [HO HatS Hsent]
  · isplitl [HO]; · iexact HO
    isplitl [HatS] <;> iassumption
  rw [wp_bind]
  iapply (H19 g1 _) $$ [H Hout]
  · isplitr; · iexact HR
    isplitl [H] <;> iassumption
  iintro ⟨H, Hout⟩
  rw [wp_bind]
  iapply (H20 _) $$ [H]
  · isplitr; · iexact HR
    iexact H
  iintro H
  iapply (Hend _) $$ [H]
  · isplitr; · iexact HR
    iexact H
  iintro H
  ihave H' := (lft_elim m ρ c) $$ H
  icases H' with ⟨HO, HatS, Htoks⟩
  -- every cell closes
  imod (Rounds.cell_close ER (Rd m ρ) (g := barCell c) (Set.mem_univ (K (c, none))) (fun h => h) (R := 0 + 1) (duties_later m ρ (barCell c))) $$ [HatB] with HzB
  · isplitr; · iapply (inv_at m ρ K (c, none)); iexact HR
    iexact HatB
  imod (close_send m ρ c K) $$ [HatSc HatS] with HzS
  · isplitr; · iexact HR
    isplitl [HatSc] <;> iassumption
  imod (close_recv m ρ c K) $$ [HatVc HatV] with HzV
  · isplitr; · iexact HR
    isplitl [HatVc] <;> iassumption
  imodintro
  iapply Hk
  unfold bodyPostY Φ₁ Dat.owesAt Pipeline.owesWithin
  rw [show (dats m ρ 0 c).owed t0_0.succ = 0 from rfl]
  isplitl [Hkeep Hdrop Htokc Htoks Hslots HzB HzS HzV]
  · isplitl [Hkeep Hdrop Htokc Htoks Hslots]
    · iapply (gather m ρ c)
      isplitl [Hkeep]; · iexact Hkeep
      isplitl [Hdrop]; · iexact Hdrop
      isplitl [Htokc]; · iexact Htokc
      isplitl [Htoks] <;> iassumption
    isplitl [HzB]; · iexact HzB
    isplitl [HzS] <;> iassumption
  isplitl [HO]
  · unfold ow
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

/-- The last wait of the body. -/
def lastWait (d0 : Dev nD) : Prog (TpuEff nD τ sig (Elt F) Λ₀ .tc) PUnit := do
  Prog.lift (.waitDma2 ((cc0_scratch1.slice (Rect.unit (s := S8) ![7] S1.size inb_S8_S1_7)).squeeze S_ squeezes_S1_S_).sem
    ((gM.slice (Rect.unit (s := S8x512x16) (k0_off3 d0) S1x512x16.size (k0_off3_inb d0)) (fun _ => rfl)).squeeze S512x16 squeezes_S1x512x16_S512x16)
    ((gM.slice (Rect.unit (s := S8x512x16) (k0_off3 d0) S1x512x16.size (k0_off3_inb d0)) (fun _ => rfl)).squeeze S512x16 squeezes_S1x512x16_S512x16)
    ((View.wordExact_bits rfl).reshape _ _) ((View.wordExact_bits rfl).reshape _ _))
  pure ⟨⟩

theorem last_spec (K : CK → ℕ) (c : Dev nD) (Q : PUnit → sProp 𝕄) :
    iprop(records m ρ K ∗ LFT m ρ c 7) ⊢ iprop((LFT m ρ c 8 -∗ |={Set.univ}=> Q ⟨⟩) -∗ wp frame (wpE (defs₀ (F := F)) 𝒱₀ (c : Thread nD τ) none) Set.univ (lastWait c) Q) := by
  unfold lastWait
  simp only [Prog.lift, Prog.bind_op, Prog.bind_ret, Prog.pure_eq_ret]
  iintro ⟨#HR, H⟩ Hk
  iapply (step_left m ρ K c 7 (by decide) (by decide) _ sendq_7) $$ [H]
  · isplitr; · iexact HR
    iexact H
  iintro H
  rw [wp_ret]
  iapply Hk; iexact H

abbrev bodyPost (c : Dev nD) : sProp 𝕄 := bodyPostY m ρ c (outV (gat m ρ))

set_option maxRecDepth 65536 in
theorem body_parts : cc0_body (F := F) xM (Memref.isWhole_whole _) oM (Memref.isWhole_whole _) gM (Memref.isWhole_whole _) cc0_scratch1 cc0_scratch2
    = bodyOf lastWait (k0_part1 xM (Memref.isWhole_whole _) oM (Memref.isWhole_whole _) gM (Memref.isWhole_whole _) cc0_scratch1 cc0_scratch2) (k0_part2 xM (Memref.isWhole_whole _) oM (Memref.isWhole_whole _) gM (Memref.isWhole_whole _) cc0_scratch1 cc0_scratch2) (k0_part3 xM (Memref.isWhole_whole _) oM (Memref.isWhole_whole _) gM (Memref.isWhole_whole _) cc0_scratch1 cc0_scratch2) (k0_part4 xM (Memref.isWhole_whole _) oM (Memref.isWhole_whole _) gM (Memref.isWhole_whole _) cc0_scratch1 cc0_scratch2) (k0_part5 xM (Memref.isWhole_whole _) oM (Memref.isWhole_whole _) gM (Memref.isWhole_whole _) cc0_scratch1 cc0_scratch2) (k0_part6 xM (Memref.isWhole_whole _) oM (Memref.isWhole_whole _) gM (Memref.isWhole_whole _) cc0_scratch1 cc0_scratch2) (k0_part7 xM (Memref.isWhole_whole _) oM (Memref.isWhole_whole _) gM (Memref.isWhole_whole _) cc0_scratch1 cc0_scratch2) (k0_part8 xM (Memref.isWhole_whole _) oM (Memref.isWhole_whole _) gM (Memref.isWhole_whole _) cc0_scratch1 cc0_scratch2) (k0_part9 xM (Memref.isWhole_whole _) oM (Memref.isWhole_whole _) gM (Memref.isWhole_whole _) cc0_scratch1 cc0_scratch2) (k0_part10 xM (Memref.isWhole_whole _) oM (Memref.isWhole_whole _) gM (Memref.isWhole_whole _) cc0_scratch1 cc0_scratch2) (k0_part11 xM (Memref.isWhole_whole _) oM (Memref.isWhole_whole _) gM (Memref.isWhole_whole _) cc0_scratch1 cc0_scratch2) (k0_part12 xM (Memref.isWhole_whole _) oM (Memref.isWhole_whole _) gM (Memref.isWhole_whole _) cc0_scratch1 cc0_scratch2) (k0_part13 xM (Memref.isWhole_whole _) oM (Memref.isWhole_whole _) gM (Memref.isWhole_whole _) cc0_scratch1 cc0_scratch2) (k0_part14 xM (Memref.isWhole_whole _) oM (Memref.isWhole_whole _) gM (Memref.isWhole_whole _) cc0_scratch1 cc0_scratch2) (k0_part15 xM (Memref.isWhole_whole _) oM (Memref.isWhole_whole _) gM (Memref.isWhole_whole _) cc0_scratch1 cc0_scratch2) (k0_part16 xM (Memref.isWhole_whole _) oM (Memref.isWhole_whole _) gM (Memref.isWhole_whole _) cc0_scratch1 cc0_scratch2) (k0_part17 xM (Memref.isWhole_whole _) oM (Memref.isWhole_whole _) gM (Memref.isWhole_whole _) cc0_scratch1 cc0_scratch2) (k0_part18 xM (Memref.isWhole_whole _) oM (Memref.isWhole_whole _) gM (Memref.isWhole_whole _) cc0_scratch1 cc0_scratch2) (k0_part19 xM (Memref.isWhole_whole _) oM (Memref.isWhole_whole _) gM (Memref.isWhole_whole _) cc0_scratch1 cc0_scratch2) (k0_part20 xM (Memref.isWhole_whole _) oM (Memref.isWhole_whole _) gM (Memref.isWhole_whole _) cc0_scratch1 cc0_scratch2) := by
  rw [cc0_body_eq_skeleton]; rfl

set_option maxHeartbeats 4000000 in
set_option maxRecDepth 8000 in
theorem sound_body (K : CK → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body xM (Memref.isWhole_whole _) oM (Memref.isWhole_whole _) gM (Memref.isWhole_whole _) cc0_scratch1 cc0_scratch2) Kt := by
  rw [body_parts]
  exact sound_glue m ρ K c Kt (outV (gat m ρ)) lastWait (k0_part1 xM (Memref.isWhole_whole _) oM (Memref.isWhole_whole _) gM (Memref.isWhole_whole _) cc0_scratch1 cc0_scratch2) (k0_part2 xM (Memref.isWhole_whole _) oM (Memref.isWhole_whole _) gM (Memref.isWhole_whole _) cc0_scratch1 cc0_scratch2) (k0_part3 xM (Memref.isWhole_whole _) oM (Memref.isWhole_whole _) gM (Memref.isWhole_whole _) cc0_scratch1 cc0_scratch2) (k0_part4 xM (Memref.isWhole_whole _) oM (Memref.isWhole_whole _) gM (Memref.isWhole_whole _) cc0_scratch1 cc0_scratch2) (k0_part5 xM (Memref.isWhole_whole _) oM (Memref.isWhole_whole _) gM (Memref.isWhole_whole _) cc0_scratch1 cc0_scratch2) (k0_part6 xM (Memref.isWhole_whole _) oM (Memref.isWhole_whole _) gM (Memref.isWhole_whole _) cc0_scratch1 cc0_scratch2) (k0_part7 xM (Memref.isWhole_whole _) oM (Memref.isWhole_whole _) gM (Memref.isWhole_whole _) cc0_scratch1 cc0_scratch2) (k0_part8 xM (Memref.isWhole_whole _) oM (Memref.isWhole_whole _) gM (Memref.isWhole_whole _) cc0_scratch1 cc0_scratch2) (k0_part9 xM (Memref.isWhole_whole _) oM (Memref.isWhole_whole _) gM (Memref.isWhole_whole _) cc0_scratch1 cc0_scratch2) (k0_part10 xM (Memref.isWhole_whole _) oM (Memref.isWhole_whole _) gM (Memref.isWhole_whole _) cc0_scratch1 cc0_scratch2) (k0_part11 xM (Memref.isWhole_whole _) oM (Memref.isWhole_whole _) gM (Memref.isWhole_whole _) cc0_scratch1 cc0_scratch2) (k0_part12 xM (Memref.isWhole_whole _) oM (Memref.isWhole_whole _) gM (Memref.isWhole_whole _) cc0_scratch1 cc0_scratch2) (k0_part13 xM (Memref.isWhole_whole _) oM (Memref.isWhole_whole _) gM (Memref.isWhole_whole _) cc0_scratch1 cc0_scratch2) (k0_part14 xM (Memref.isWhole_whole _) oM (Memref.isWhole_whole _) gM (Memref.isWhole_whole _) cc0_scratch1 cc0_scratch2) (k0_part15 xM (Memref.isWhole_whole _) oM (Memref.isWhole_whole _) gM (Memref.isWhole_whole _) cc0_scratch1 cc0_scratch2) (k0_part16 xM (Memref.isWhole_whole _) oM (Memref.isWhole_whole _) gM (Memref.isWhole_whole _) cc0_scratch1 cc0_scratch2) (k0_part17 xM (Memref.isWhole_whole _) oM (Memref.isWhole_whole _) gM (Memref.isWhole_whole _) cc0_scratch1 cc0_scratch2) (k0_part18 xM (Memref.isWhole_whole _) oM (Memref.isWhole_whole _) gM (Memref.isWhole_whole _) cc0_scratch1 cc0_scratch2) (k0_part19 xM (Memref.isWhole_whole _) oM (Memref.isWhole_whole _) gM (Memref.isWhole_whole _) cc0_scratch1 cc0_scratch2) (k0_part20 xM (Memref.isWhole_whole _) oM (Memref.isWhole_whole _) gM (Memref.isWhole_whole _) cc0_scratch1 cc0_scratch2)
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (part1_spec m ρ K c) (fun v2 v24 w Q => part2_spec m ρ K c v2 v24 w (xstg m ρ c) Q)
    (part3_eq xM (Memref.isWhole_whole _) oM (Memref.isWhole_whole _) gM (Memref.isWhole_whole _) cc0_scratch1 cc0_scratch2 _) (part4_eq xM (Memref.isWhole_whole _) oM (Memref.isWhole_whole _) gM (Memref.isWhole_whole _) cc0_scratch1 cc0_scratch2 _) (part5_eq xM (Memref.isWhole_whole _) oM (Memref.isWhole_whole _) gM (Memref.isWhole_whole _) cc0_scratch1 cc0_scratch2 _) (part6_eq xM (Memref.isWhole_whole _) oM (Memref.isWhole_whole _) gM (Memref.isWhole_whole _) cc0_scratch1 cc0_scratch2 _) (part7_eq xM (Memref.isWhole_whole _) oM (Memref.isWhole_whole _) gM (Memref.isWhole_whole _) cc0_scratch1 cc0_scratch2 _) (part8_eq xM (Memref.isWhole_whole _) oM (Memref.isWhole_whole _) gM (Memref.isWhole_whole _) cc0_scratch1 cc0_scratch2 _) (part9_eq xM (Memref.isWhole_whole _) oM (Memref.isWhole_whole _) gM (Memref.isWhole_whole _) cc0_scratch1 cc0_scratch2 _) (part10_eq xM (Memref.isWhole_whole _) oM (Memref.isWhole_whole _) gM (Memref.isWhole_whole _) cc0_scratch1 cc0_scratch2 _)
    (fun v2 f Q => part11_spec m ρ c v2 f Q) (part12_spec m ρ K c) (part13_spec m ρ K c) (part14_spec m ρ K c) (part15_spec m ρ K c)
    (fun v2 Q => part16_spec m ρ K c v2 Q (slotPts c c keepQ (gat m ρ)) (read_all m ρ c))
    (part17_eq xM (Memref.isWhole_whole _) oM (Memref.isWhole_whole _) gM (Memref.isWhole_whole _) cc0_scratch1 cc0_scratch2 _) (part18_eq xM (Memref.isWhole_whole _) oM (Memref.isWhole_whole _) gM (Memref.isWhole_whole _) cc0_scratch1 cc0_scratch2 _) (part19_spec m ρ K c) (part20_spec m ρ K c) (last_spec m ρ K c)

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 4000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre' m ρ c ⊢ wp frame (wpE (defs₀ (F := F)) 𝒱₀ c none) Set.univ (cc0_body xM (Memref.isWhole_whole _) oM (Memref.isWhole_whole _) gM (Memref.isWhole_whole _) cc0_scratch1 cc0_scratch2) (fun _ => bodyPost m ρ c)
  unfold bodyPre' Φ₀ start
  iintro ⟨⟨⟨%K, Hg⟩, Hscr⟩, Ho, Hx, Hout⟩
  iapply (sound_body m ρ K c fun _ => bodyPost m ρ c)
  unfold bodyPre
  isplitr []
  · isplitl [Hg Hscr]
    · isplitl [Hg] <;> iassumption
    isplitl [Ho]; · iexact Ho
    isplitl [Hx] <;> iassumption
  · iintro H; iexact H

end Body

end Cert.TopK

end
-- ==== Proof.Run.lean ====
/-
# The launch

What the launch deals out, how it is passed around the devices, and the run of the program: every execution ends, with the
result array at the computed contents, the argument unchanged and every semaphore at zero.
-/
module

public import proofs.«01_k».proof.Proof.Body
public import Idealize.ShloMosaic.Lib.Pipeline.CollectiveSegs
public import Idealize.ShloMosaic.Adequacy
public import Idealize.ShloMosaic.Init

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells, listed by peer -/

/-- The send semaphores of device `c`, named by the peer they serve. -/
def offEquiv (c : Dev nD) : Dev nD ≃ Fin 8 :=
  Equiv.ofBijective (fun s => (⟨off c s, off_lt c s⟩ : Fin 8))
    ((Finite.injective_iff_bijective (α := Fin 8)).mp fun s t h => off_inj c s t (congrArg Fin.val h))

theorem bigSep_own (c : Dev nD) (Φ : Bool × Fin 8 → sProp 𝕄) :
    bigSep Finset.univ Φ = iprop((bigSep Finset.univ fun s : Dev nD => Φ (false, ⟨off c s, off_lt c s⟩)) ∗ (bigSep Finset.univ fun s : Dev nD => Φ (true, s))) := by
  have h : bigSep Finset.univ Φ = iprop((bigSep Finset.univ fun o : Fin 8 => Φ (false, o)) ∗ (bigSep Finset.univ fun s : Fin 8 => Φ (true, s))) := by
    rw [bigSep_univ_prod, bigSep_univ_eq_bigSepL [false, true] (by decide) (by decide)]; rfl
  rw [h, bigSep_univ_equiv (offEquiv c) (fun o => Φ (false, o))]
  rfl

theorem bigSep_all (c : Dev nD) (Φ : Option (Bool × Fin 8) → sProp 𝕄) :
    bigSep Finset.univ Φ = iprop(Φ none ∗ (bigSep Finset.univ fun s : Dev nD => Φ (some (false, ⟨off c s, off_lt c s⟩)))
      ∗ (bigSep Finset.univ fun s : Dev nD => Φ (some (true, s)))) := by
  have h : (Finset.univ : Finset (Option (Bool × Fin 8))).erase none = Finset.univ.map Function.Embedding.some := by decide
  rw [bigSep_univ_at Φ none, h, bigSep_map, bigSep_own c]
  rfl

theorem csem_injective : Function.Injective (csem : Option (Bool × Fin 8) → SemLoc sig) := by decide

theorem kcell_injective : Function.Injective (kcell : CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def exCells : Finset (GSem nD τ sig) := Finset.univ.map ⟨kcell, kcell_injective⟩

/-- The duties of a device's own cells: one per peer at its barrier, one for each peer it sends to and receives from. -/
abbrev tokOf (x : Dev nD × Fin 3 × Dev nD) : GSem nD τ sig × ℕ × Dev nD := match x.2.1 with
  | 0 => (barCell x.1, 0, x.2.2)
  | 1 => (sendCell x.1 x.2.2, 0, 0)
  | 2 => (recvCell x.1 x.2.2, 0, 0)

theorem tokOf_injective : Function.Injective tokOf := by
  have h0 : ∀ (c : Dev nD) (x y : Fin 3 × Dev nD), (tokOf (c, x)).1.2 = (tokOf (c, y)).1.2 → (tokOf (c, x)).2.2 = (tokOf (c, y)).2.2 → x = y := by decide
  rintro ⟨c, x⟩ ⟨c', y⟩ h
  have h1 : c = c' := by
    have := congrArg (fun z : GSem nD τ sig × ℕ × Dev nD => z.1.1.1) h
    obtain ⟨j, s⟩ := x; obtain ⟨j', s'⟩ := y
    fin_cases j <;> fin_cases j' <;> exact this
  subst h1
  rw [h0 c x y (congrArg (fun z : GSem nD τ sig × ℕ × Dev nD => z.1.2) h) (congrArg (fun z : GSem nD τ sig × ℕ × Dev nD => z.2.2) h)]

def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The duties of device `c`'s own cells. -/
def toks (c : Dev nD) : sProp 𝕄 :=
  iprop((bigSep Finset.univ fun s : Dev nD => dutyTok ER (barCell c) 0 s) ∗ (bigSep Finset.univ fun s : Dev nD => dutyTok ER (sendCell c s) 0 0)
    ∗ (bigSep Finset.univ fun s : Dev nD => dutyTok ER (recvCell c s) 0 0))

/-- What the launch deals to device `c`; -/
def G (c : Dev nD) : sProp 𝕄 :=
  iprop((bigSep Finset.univ fun k : Option (Bool × Fin 8) => roundState ER (Rd m ρ) (kcell (c, k)) 0)
    ∗ (bigSep Finset.univ fun k : Option (Bool × Fin 8) => iprop(atPos ER (kcell (c, k)) 0 ∅ 0 ∗ reached ER (kcell (c, k)) 0)) ∗ toks c)

/-- the duties device `c` pays, which lie at its peers' cells and at its own send cells; -/
def payToks (c : Dev nD) : sProp 𝕄 :=
  iprop((bigSep (Finset.univ.erase c) fun s => dutyTok ER (barCell s) 0 c) ∗ (bigSep (Finset.univ.erase c) fun s => dutyTok ER (recvCell s c) 0 0)
    ∗ (bigSep (Finset.univ.erase c) fun s => dutyTok ER (sendCell c s) 0 0))

/-- what device `c` holds alone; -/
def linear (c : Dev nD) : sProp 𝕄 :=
  iprop((bigSep Finset.univ fun k : Option (Bool × Fin 8) => atPos ER (kcell (c, k)) 0 ∅ 0) ∗ payToks c)

/-- and what it holds after the devices have passed the duties around. -/
def G' (c : Dev nD) : sProp 𝕄 := iprop(∃ K, records m ρ K ∗ linear c)

theorem bigSep_three (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Option (Bool × Fin 8) => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_prod, bigSep_three]; rfl
  iintro HX
  imod (Rounds.fund ER (Rd m ρ) exCells exToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄)
    = iprop((bigSep Finset.univ fun s : Dev nD => semVal (sendCell c s) 0) ∗ (bigSep Finset.univ fun s : Dev nD => semVal (recvCell c s) 0)) := by
  unfold Pipeline.ownSems0; rw [bigSep_own c]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Fin 8) => semVal (kcell (c, k)) 0 : sProp 𝕄) := by
  rw [ownSems0_eq, unscopedSems0_eq, bigSep_all c]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  have hinv : iprop((bigSep Finset.univ fun k : Option (Bool × Fin 8) => semVal (kcell (c, k)) 0)
        ∗ bigSep Finset.univ fun k : Option (Bool × Fin 8) => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-! ## Passing the duties around -/

theorem drop_own (c : Dev nD) (Φ : Dev nD → sProp 𝕄) : bigSep Finset.univ Φ ⊢ bigSep (Finset.univ.erase c) Φ := bigSep_subset (Finset.erase_subset _ _)

theorem toks_around : (bigSep Finset.univ fun c : Dev nD => (toks c : sProp 𝕄)) ⊢ bigSep Finset.univ fun c : Dev nD => payToks c := by
  have hb (Ψ : Dev nD → Dev nD → sProp 𝕄) : (bigSep Finset.univ fun c : Dev nD => bigSep Finset.univ (Ψ c))
      ⊢ bigSep Finset.univ fun c : Dev nD => bigSep (Finset.univ.erase c) (Ψ c) := bigSep_mono fun c _ => drop_own c (Ψ c)
  have hc (Ψ : Dev nD → Dev nD → sProp 𝕄) : (bigSep Finset.univ fun c : Dev nD => bigSep Finset.univ (Ψ c))
      ⊢ bigSep Finset.univ fun c : Dev nD => bigSep (Finset.univ.erase c) fun s => Ψ s c := (hb Ψ).trans (Entails.of_eq (bigSep_erase_comm Ψ))
  unfold toks payToks
  rw [bigSep_sep', bigSep_sep', bigSep_sep', bigSep_sep']
  iintro ⟨H1, H2, H3⟩
  isplitl [H1]
  · iapply (hc fun c s : Dev nD => (dutyTok ER (barCell c) 0 s : sProp 𝕄)); iexact H1
  isplitl [H3]
  · iapply (hc fun c s : Dev nD => (dutyTok ER (recvCell c s) 0 0 : sProp 𝕄)); iexact H3
  · iapply (hb fun c s : Dev nD => (dutyTok ER (sendCell c s) 0 0 : sProp 𝕄)); iexact H2

theorem handed_intro (K : CK → ℕ) (c : Dev nD) : iprop(records m ρ K ∗ linear c) ⊢ G' m ρ c := by
  unfold G'
  iintro H
  iexists K; iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : CK => iprop(∃ κ : ℕ, cellInv ER (Rd m ρ) κ (kcell ck))),
    bigSep_congr (s := Finset.univ) (fun (c : Dev nD) _ => bigSep_sep' Finset.univ (fun k : Option (Bool × Fin 8) => (atPos ER (kcell (c, k)) 0 ∅ 0 : sProp 𝕄)) (fun k => reached ER (kcell (c, k)) 0)),
    bigSep_sep', ← bigSep_univ_prod (fun ck : CK => (reached ER (kcell ck) 0 : sProp 𝕄))]
  iintro ⟨HI, ⟨Hat, #HR⟩, Htok⟩
  ihave HK := (BI.bigSep_exists_pi Finset.univ (fun (ck : CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => handed_intro m ρ K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch -/

theorem bar_eq_iff {a b : Dev nD} : barCell a = barCell b ↔ a = b := ⟨fun h => congrArg (fun g : GSem nD τ sig => g.1.1) h, fun h => h ▸ rfl⟩
theorem recvQ_inj {a b : Dev nD} (h : recvQ a = recvQ b) : a = b := Fin.ext (by
  have h1 : 10 + a.val = 10 + b.val := congrArg Fin.val h
  omega)
theorem recv_eq_iff {a b s t : Dev nD} : recvCell a s = recvCell b t ↔ a = b ∧ s = t :=
  ⟨fun h => ⟨congrArg (fun g : GSem nD τ sig => g.1.1) h, recvQ_inj (by injection (congrArg Prod.snd h))⟩, fun h => by rw [h.1, h.2]⟩
theorem bar_ne_recv (a b s : Dev nD) : barCell a ≠ recvCell b s := fun h => by cases congrArg Prod.snd h

theorem tally_sum (S : Finset (Dev nD)) (f : Dev nD → GSem nD τ sig) (k : ℕ) (g : GSem nD τ sig) :
    (∑ s ∈ S, (tallyAt (f s) () k : CellTallies nD τ sig Unit)) g () = ∑ s ∈ S, if g = f s then k else 0 := by
  rw [Finset.sum_apply, Finsupp.finset_sum_apply]
  refine Finset.sum_congr rfl fun s _ => ?_
  rw [tallyAt_apply]
  by_cases h : g = f s
  · rw [if_pos ⟨h, rfl⟩, if_pos h]
  · rw [if_neg (fun h' => h h'.1), if_neg h]

/-- Every other device owes a barrier cell one unit; -/
theorem owed_bar (d c : Dev nD) : O₀ d (barCell c) () = if d ≠ c then 1 else 0 := by
  unfold O₀ oweR oweB
  rw [Pi.add_apply, Finsupp.add_apply, tally_sum, tally_sum, Finset.sum_eq_zero fun s _ => if_neg (bar_ne_recv c s d), Nat.zero_add, ge_one]
  simp only [bar_eq_iff]
  rw [Finset.sum_ite_eq]
  by_cases h : d = c
  · subst h; simp
  · rw [if_pos h, if_pos (Finset.mem_erase.mpr ⟨fun h' => h h'.symm, Finset.mem_univ _⟩)]

/-- a receive cell is owed what its sender sends. -/
theorem owed_recv (d c s : Dev nD) (hs : s ≠ c) : O₀ d (recvCell c s) () = if d = s then N else 0 := by
  unfold O₀ oweR oweB
  rw [Pi.add_apply, Finsupp.add_apply, tally_sum, tally_sum, Finset.sum_eq_zero (f := fun t => if recvCell c s = barCell t then 1 else 0) fun t _ => if_neg fun h => bar_ne_recv t c s h.symm, Nat.add_zero, ge_one]
  simp only [recv_eq_iff]
  by_cases h : d = s
  · subst h
    simp only [and_true, if_true]
    rw [Finset.sum_ite_eq, if_pos (Finset.mem_erase.mpr ⟨fun h' => hs h'.symm, Finset.mem_univ _⟩)]
  · rw [if_neg h]
    exact Finset.sum_eq_zero fun t _ => if_neg fun h' => h h'.2.symm

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

theorem creds (c : Dev nD) :
    (Pipeline.launchCred O₀ c : sProp 𝕄) ⊢ iprop(cred (tallyAt (barCell c) () 7) ∗ (bigSep (Finset.univ.erase c) fun s => cred (tallyAt (recvCell c s) () N))) := by
  unfold Pipeline.launchCred
  rw [bigSep_univ_at _ (SemLoc.reg barS), launch_bar]
  refine sep_mono_right ?_
  have hsub : (Finset.univ.erase c).map ⟨fun s : Dev nD => (SemLoc.dma (recvQ s) : SemLoc sig), fun a b h => recvQ_inj (by injection h)⟩
      ⊆ Finset.univ.erase (SemLoc.reg barS) := fun x hx => by
    obtain ⟨s, -, rfl⟩ := Finset.mem_map.mp hx
    exact Finset.mem_erase.mpr ⟨(by rintro ⟨⟩), Finset.mem_univ _⟩
  refine (bigSep_subset hsub).trans ?_
  rw [bigSep_map]
  exact Entails.of_eq (bigSep_congr fun s hs => by rw [← launch_recv c s (Finset.ne_of_mem_erase hs)]; rfl)

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start startK G' linear payToks
  iintro ⟨-, Hlev, Hcr, -, ⟨%K, HR, Hat, HtB, HtV, HtS⟩⟩
  ihave Hc := (creds (F := F) c) $$ Hcr
  icases Hc with ⟨H1, HN⟩
  ihave Hat' := (Entails.of_eq (bigSep_all c fun k => (atPos ER (kcell (c, k)) 0 ∅ 0 : sProp 𝕄))) $$ Hat
  icases Hat' with ⟨HaB, HaS, HaV⟩
  imodintro
  isplitl
  · iexists K
    isplitl [HR]; · iexact HR
    isplitl [Hlev]; · iexact Hlev
    isplitl [HaB]; · iexact HaB
    isplitl [HaS]; · iexact HaS
    isplitl [HaV]; · iexact HaV
    isplitl [HtB]; · iexact HtB
    isplitl [HtV]; · iexact HtV
    isplitl [HtS]; · iexact HtS
    isplitl [H1] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scr
  iintro ⟨Hr, HzB, HzS, HzV⟩
  isplitl [HzB]; · iexact HzB
  isplitl [HzS HzV]
  · isplitl [HzS] <;> iassumption
  iexists (gat m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, the eight devices' programs all end, with every window's array as computed
    and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Ref.lean ====
/-
# What the reference computes, read at an index

Three kinds of host operations are read: a reduction by `and` and one that counts (`and_reduce`, `card_le_count`), the
stable sort of a row (`order`, with `order_falls`), and the reading of a row at a list of positions (`take_apply`). The
reference's entry `(r, k)` is then the row's entry at the `k`-th place of its falling order (`tops_apply`).
-/
module

public import proofs.«01_k».proof.On_well_separated
public import proofs.«01_k».proof.Proof.Gen.On_well_separated
public import Idealize.ShloMosaic.Lib.SortFacts
public import Idealize.ShloMosaic.Lib.WordCmp
public import Idealize.ShloMosaic.Lib.ValueIdxCore
public import Idealize.ShloMosaic.PureOps.Reduce
public import Idealize.ShloMosaic.PureOps.Ideal
public import Idealize.ShloMosaic.Lib.Pipeline.Value
public import Idealize.ShloMosaic.Lib.ValueLayout

@[expose] public section

set_option maxRecDepth 65536

noncomputable section

namespace Cert.TopK.Ref

open Cert.On_well_separated Cert.On_well_separated.Gen
open Idealize.ShloMosaic
open Idealize.ShloMosaic.ValueIdx Idealize.ShloMosaic.WordCmp

/-! ## Reductions of bits -/

section reductions
variable {s t u : Shape} {axes : List (Fin s.rank)}

theorem and_fold {ι : Type} (f : ι → BitVec 1) (l : List ι) (b : BitVec 1) :
    l.foldl (fun a n => IntOp.andi a (f n)) b = 1#1 ↔ b = 1#1 ∧ ∀ n ∈ l, f n = 1#1 := by
  induction l generalizing b with
  | nil => simp
  | cons n l ih =>
    have h : ∀ a c : BitVec 1, IntOp.andi a c = 1#1 ↔ a = 1#1 ∧ c = 1#1 := by decide
    rw [List.foldl_cons, ih, h]
    simp [and_assoc]

/-- The `and` of the bits that fall on `j` is set exactly when each of them is. -/
theorem and_reduce (x : s.Idx → BitVec 1) (init : u.Idx → BitVec 1) (h : s.ReducesTo axes t) (hu : 0 < u.numel)
    (hi : ∀ i, init i = 1#1) (j : t.Idx) :
    Host.reduce IntOp.andi x init h hu j = 1#1 ↔ ∀ i, h.drop i = j → x i = 1#1 := by
  unfold Host.reduce
  rw [and_fold, hi]
  constructor
  · rintro ⟨-, hx⟩ i hij
    have := hx (s.rowMajor i) (List.mem_filter.mpr ⟨List.mem_finRange _, by simpa using hij⟩)
    simpa using this
  · refine fun hx => ⟨rfl, fun n hn => hx _ ?_⟩
    simpa using (List.mem_filter.mp hn).2

theorem add_fold {ι : Type} (f : ι → BitVec 1) (l : List ι) (b : BitVec 32) (hb : b.toNat + l.length < 2 ^ 32) :
    (l.foldl (fun a n => IntOp.addi a ((f n).setWidth 32)) b).toNat = b.toNat + (l.filter fun n => f n = 1#1).length := by
  induction l generalizing b with
  | nil => simp
  | cons n l ih =>
    rw [List.length_cons] at hb
    have hf : f n = 0#1 ∨ f n = 1#1 := by
      have : ∀ v : BitVec 1, v = 0#1 ∨ v = 1#1 := by decide
      exact this _
    have e : (IntOp.addi b ((f n).setWidth 32)).toNat = b.toNat + (if f n = 1#1 then 1 else 0) := by
      unfold IntOp.addi
      rcases hf with hf | hf <;> rw [hf, BitVec.toNat_add]
      · simp
        omega
      · simp
        omega
    rw [List.foldl_cons, ih _ (by rw [e]; split <;> omega), e, List.filter_cons]
    rcases hf with hf | hf <;> simp [hf]
    omega

/-- A set of positions that fall on `j`, each with its bit set, has no more members than the count at `j` says, and the count
    is no greater than the number of all positions. -/
theorem card_le_count (x : s.Idx → BitVec 1) (init : u.Idx → BitVec 32) (h : s.ReducesTo axes t) (hu : 0 < u.numel)
    (hi : ∀ i, init i = 0#32) (hs : s.numel < 2 ^ 31) (j : t.Idx) (S : Finset s.Idx)
    (hS : ∀ i ∈ S, h.drop i = j ∧ x i = 1#1) :
    S.card ≤ (Host.reduce IntOp.addi (fun i => (x i).setWidth 32) init h hu j).toNat
      ∧ (Host.reduce IntOp.addi (fun i => (x i).setWidth 32) init h hu j).toNat < 2 ^ 31 := by
  have hlen : ((List.finRange s.numel).filter fun n => h.drop (s.rowMajor.symm n) = j).length ≤ s.numel :=
    (List.length_filter_le _ _).trans (by rw [List.length_finRange])
  have e : (Host.reduce IntOp.addi (fun i => (x i).setWidth 32) init h hu j).toNat = _ :=
    add_fold (fun n => x (s.rowMajor.symm n)) ((List.finRange s.numel).filter fun n => h.drop (s.rowMajor.symm n) = j)
      (init (Shape.Idx.first hu)) (by rw [hi]; simp only [BitVec.toNat_ofNat]; omega)
  rw [e, hi]
  simp only [BitVec.toNat_ofNat, Nat.zero_mod, Nat.zero_add]
  constructor
  · have hn : (((List.finRange s.numel).filter fun n => h.drop (s.rowMajor.symm n) = j).filter
        fun n => x (s.rowMajor.symm n) = 1#1).Nodup := ((List.nodup_finRange _).filter _).filter _
    rw [← List.toFinset_card_of_nodup hn]
    refine Finset.card_le_card_of_injOn s.rowMajor (fun i hi => ?_) (s.rowMajor.injective.injOn)
    have := hS i hi
    simp [this]
  · exact ((List.length_filter_le _ _).trans hlen).trans_lt hs

end reductions

/-! ## The falling order of a row -/

/-- Row `r`'s columns in falling order of their values, equal values in the order of their columns. -/
def order (X : S512x32768.Idx → EReal) (r : Fin 512) : Fin 32768 → Fin 32768 :=
  sortedFrom fun k k' => decide (X (ix2 r k') < X (ix2 r k))

theorem order_injective (X : S512x32768.Idx → EReal) (r : Fin 512) : Function.Injective (order X r) := sortedFrom_injective _
theorem order_surjective (X : S512x32768.Idx → EReal) (r : Fin 512) : Function.Surjective (order X r) := sortedFrom_surjective _

theorem order_falls (X : S512x32768.Idx → EReal) (r : Fin 512) (i j : Fin 32768) (hij : i ≤ j) :
    X (ix2 r (order X r j)) ≤ X (ix2 r (order X r i)) := by
  rcases hij.eq_or_lt with rfl | hlt
  · exact le_refl _
  have := sortedFrom_noInversion (fun k k' => decide (X (ix2 r k') < X (ix2 r k))) (fun k k' => decide (X (ix2 r k') < X (ix2 r k)))
    (fun a b h => by simp only [decide_eq_true_eq, decide_eq_false_iff_not, not_lt] at h ⊢; exact h.le)
    (fun a b h => h)
    (fun a b c h h' => by simp only [decide_eq_false_iff_not, not_lt] at h h' ⊢; exact h.trans h') i j hlt
  exact not_lt.mp (of_decide_eq_false this)

/-- The comparator asks whether the first value is below the second. -/
theorem comparator_eq (p q : Ideal .f32 × BitVec 32) :
    comparator_f32_i32_d1 (F := Ideal) p q = BitVec.ofBool (decide ((p.1 : EReal) < q.1)) := by
  have hs : ∀ c a : EReal, Scalar.select (Ideal.cmp .oeq a c) c a = a := fun c a => by
    unfold Scalar.select Ideal.cmp
    by_cases h : a = c <;> simp [h]
  have hn : ∀ c a b : EReal, Scalar.select (Ideal.cmp .une a a) c b = b := fun c a b => by
    unfold Scalar.select Ideal.cmp
    simp
  show Ideal.cmp .olt (Scalar.select (Ideal.cmp .une p.1 p.1) _ (Scalar.select (Ideal.cmp .oeq p.1 _) _ p.1))
    (Scalar.select (Ideal.cmp .une q.1 q.1) _ (Scalar.select (Ideal.cmp .oeq q.1 _) _ q.1)) = _
  rw [hs, hs, hn, hn]
  rfl

/-- The positions the sort of the negated row ends with: the falling order. -/
theorem argsort_apply (X : S512x32768.Idx → EReal) (r : Fin 512) (p : Fin 32768) :
    fn_argsort (F := Ideal) (Host.negf (F := Ideal) (φ := .f32) X) (ix2 r p) = BitVec.ofNat 32 (order X r p).val := by
  have ha : ∀ k : Fin 32768, Shape.Idx.along (s := S512x32768) (ix2 r p) 1 k = ix2 r k := fun k => by
    funext a
    match a with
    | ⟨0, _⟩ => rfl
    | ⟨1, _⟩ => rfl
  have hR : (fun k k' : Fin 32768 => comparator_f32_i32_d1 (F := Ideal)
      (Host.negf (F := Ideal) (φ := .f32) X (ix2 r k), iotaInDim S512x32768 32 1 (ix2 r k))
      (Host.negf (F := Ideal) (φ := .f32) X (ix2 r k'), iotaInDim S512x32768 32 1 (ix2 r k')) == 1#1)
      = fun k k' => decide (X (ix2 r k') < X (ix2 r k)) := by
    funext k k'
    rw [comparator_eq]
    show (BitVec.ofBool (decide (-(X (ix2 r k)) < -(X (ix2 r k')))) == 1#1) = _
    by_cases h : X (ix2 r k') < X (ix2 r k)
    · rw [decide_eq_true (EReal.neg_lt_neg_iff.mpr h), decide_eq_true h]
      rfl
    · rw [decide_eq_false (fun h' => h (EReal.neg_lt_neg_iff.mp h')), decide_eq_false h]
      rfl
  unfold fn_argsort Host.sort2
  dsimp only
  rw [dif_pos (show 1 < S512x32768.rank by decide)]
  show iotaInDim S512x32768 32 1 (Shape.Idx.along (s := S512x32768) (ix2 r p) 1
    (sortedFrom (fun k k' : Fin 32768 => comparator_f32_i32_d1 (F := Ideal)
      (Host.negf (F := Ideal) (φ := .f32) X (Shape.Idx.along (s := S512x32768) (ix2 r p) 1 k), iotaInDim S512x32768 32 1 (Shape.Idx.along (s := S512x32768) (ix2 r p) 1 k))
      (Host.negf (F := Ideal) (φ := .f32) X (Shape.Idx.along (s := S512x32768) (ix2 r p) 1 k'), iotaInDim S512x32768 32 1 (Shape.Idx.along (s := S512x32768) (ix2 r p) 1 k')) == 1#1) p)) = _
  simp only [ha]
  rw [hR]
  have hi : ∀ q : Fin 32768, iotaInDim S512x32768 32 1 (ix2 r q) = BitVec.ofNat 32 q.val := fun q => rfl
  exact (congrArg (iotaInDim S512x32768 32 1) (ha _)).trans (hi _)

/-! ## A row read at a list of positions -/

/-- The gather read at `(r, k)`: row `r` at the start index there, held inside the row. -/
theorem gather_apply (x : S512x32768.Idx → EReal) (idx : IVec S512x16x1 32) (r : Fin 512) (k : Fin 16) :
    Host.gather gather_S512x32768_S512x16x1_S512x16_n_1_0_0_1_2_11 x idx (ix2 r k)
      = x (ix2 r ⟨min (idx (ix3 r k (0 : Fin 1))).toInt.toNat 32767, by omega⟩) := by
  unfold Host.gather
  refine congrArg x (funext fun a => Fin.ext ?_)
  show gather_S512x32768_S512x16x1_S512x16_n_1_0_0_1_2_11.start (ix2 r k) idx a
    + gather_S512x32768_S512x16x1_S512x16_n_1_0_0_1_2_11.batchCoord (ix2 r k) a
    + gather_S512x32768_S512x16x1_S512x16_n_1_0_0_1_2_11.offCoord (ix2 r k) a = _
  match a with
  | ⟨0, h⟩ =>
    rw [GatherDims.start_batching _ _ _ _ (show (⟨0, h⟩ : Fin 2) ∈ [0] from List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (⟨0, h⟩ : Fin 2) ∈ gather_S512x32768_S512x16x1_S512x16_n_1_0_0_1_2_11.operandBatchingDims from List.mem_singleton.mpr rfl)]
    rfl
  | ⟨1, h⟩ =>
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, h⟩ : Fin 2) ∈ gather_S512x32768_S512x16x1_S512x16_n_1_0_0_1_2_11.startIndexMap from List.mem_singleton.mpr rfl)]
    have hs : ∀ q, gather_S512x32768_S512x16x1_S512x16_n_1_0_0_1_2_11.siIdx (ix2 r k) q = ix3 r k (0 : Fin 1) := fun q => by
      funext b
      match b with
      | ⟨0, _⟩ => rfl
      | ⟨1, _⟩ => rfl
      | ⟨2, _⟩ => exact Fin.ext (by have := (gather_S512x32768_S512x16x1_S512x16_n_1_0_0_1_2_11.siIdx (ix2 r k) q ⟨2, by decide⟩).isLt; exact Nat.lt_one_iff.mp this)
    rw [hs]
    rfl

/-- Where the positions lie in the row, the reading is the row's entry there. -/
theorem take_apply (x : S512x32768.Idx → EReal) (idx : IVec S512x16 32) (r : Fin 512) (k : Fin 16) (n : Fin 32768)
    (hn : idx (ix2 r k) = BitVec.ofNat 32 n.val) : fn_take_along_axis (F := Ideal) x idx (ix2 r k) = x (ix2 r n) := by
  have hi : (BitVec.ofNat 32 n.val).toInt = n.val := toInt_ofNat_of_lt (by have := n.isLt; norm_num; omega)
  have e4 : select (cmpi .slt idx (broadcastInDim S512x16 ![] bcast_S_S512x16 (constantI S_ 32 0#32)))
      (addi idx (broadcastInDim S512x16 ![] bcast_S_S512x16 (constantI S_ 32 32768#32))) idx (ix2 r k) = BitVec.ofNat 32 n.val := by
    show Scalar.select (IntOp.cmpi .slt (idx (ix2 r k)) 0#32) _ (idx (ix2 r k)) = _
    rw [hn, cmpi_slt_eq, hi, decide_eq_false (by simp)]
    rfl
  unfold fn_take_along_axis
  dsimp only
  generalize select (cmpi .slt idx (broadcastInDim S512x16 ![] bcast_S_S512x16 (constantI S_ 32 0#32)))
      (addi idx (broadcastInDim S512x16 ![] bcast_S_S512x16 (constantI S_ 32 32768#32))) idx = v4 at e4
  have e5 : shapeCast S512x16x1 v4 shapeCasts_S512x16_S512x16x1 (ix3 r k (0 : Fin 1)) = BitVec.ofNat 32 n.val :=
    (shapeCast_apply _ _ _ (ix2 r k) (by
      rw [Shape.rowMajor_val_three, Shape.rowMajor_val_two]
      show r.val * 16 + k.val = (r.val * 16 + k.val) * 1 + 0
      omega)).trans e4
  generalize shapeCast S512x16x1 v4 shapeCasts_S512x16_S512x16x1 = v5 at e5
  have hg : Host.gather gather_S512x32768_S512x16x1_S512x16_n_1_0_0_1_2_11 x v5 (ix2 r k) = x (ix2 r n) := by
    rw [gather_apply]
    refine congrArg (fun q => x (ix2 r q)) (Fin.ext ?_)
    show min (v5 (ix3 r k (0 : Fin 1))).toInt.toNat 32767 = n.val
    rw [e5, hi]
    have := n.isLt
    simp
    omega
  have hm := (and_reduce (andi (cmpi .sge v5 (broadcastInDim S512x16x1 ![] bcast_S_S512x16x1 (constantI S_ 32 0#32)))
      (cmpi .sle v5 (broadcastInDim S512x16x1 ![0, 1, 2] bcast_S1x1x1_S512x16x1_0_1_2
        (broadcastInDim S1x1x1 ![2] bcast_S1_S1x1x1_2 (constantI S1 32 32767#32)))))
      (constantI S_ 1 1#1) reducesTo_S512x16x1_S512x16_d2 h_S_ (fun _ => rfl) (ix2 r k)).mpr (fun i hd => by
    have h0 : (i 0).val = r.val := (Shape.ReducesTo.drop_apply_val_of_eq reducesTo_S512x16x1_S512x16_d2 i 0 0).symm.trans (congrArg (fun j : S512x16.Idx => (j 0).val) hd)
    have h1 : (i 1).val = k.val := (Shape.ReducesTo.drop_apply_val_of_eq reducesTo_S512x16x1_S512x16_d2 i 1 1).symm.trans (congrArg (fun j : S512x16.Idx => (j 1).val) hd)
    have h2 : (i 2).val < 1 := (i 2).isLt
    have ei : i = ix3 r k (0 : Fin 1) := by
      funext a
      match a with
      | ⟨0, _⟩ => exact Fin.ext h0
      | ⟨1, _⟩ => exact Fin.ext h1
      | ⟨2, _⟩ => exact Fin.ext (Nat.lt_one_iff.mp h2)
    rw [ei]
    show IntOp.andi (IntOp.cmpi .sge (v5 (ix3 r k (0 : Fin 1))) 0#32) (IntOp.cmpi .sle (v5 (ix3 r k (0 : Fin 1))) 32767#32) = 1#1
    rw [e5, cmpi_sge_eq, cmpi_sle_eq, hi]
    have := n.isLt
    have a0 : (0#32).toInt ≤ (n.val : ℤ) := by simp
    have a1 : (n.val : ℤ) ≤ (32767#32).toInt := by
      have : (32767#32).toInt = 32767 := by decide
      omega
    rw [decide_eq_true a0, decide_eq_true a1]
    rfl)
  show Scalar.select (Host.reduce IntOp.andi _ _ _ _ (ix2 r k)) (Host.gather _ x v5 (ix2 r k)) _ = _
  rw [hm, hg]
  rfl

/-- The row's entry at place `k` of its falling order. -/
def tops (X : S512x32768.Idx → EReal) : S512x16.Idx → EReal :=
  fn_take_along_axis (F := Ideal) X (extractStridedSlice S512x16 ![0, 0] (fn_argsort (F := Ideal) (Host.negf (F := Ideal) (φ := .f32) X)) slices_S512x32768_S512x16_0_0)

theorem tops_apply (X : S512x32768.Idx → EReal) (r : Fin 512) (k : Fin 16) :
    tops X (ix2 r k) = X (ix2 r (order X r ⟨k.val, by omega⟩)) :=
  take_apply X _ r k (order X r ⟨k.val, by omega⟩) (by
    rw [slice2_axis1_apply 0 _ _ r k (⟨k.val, by omega⟩ : Fin 32768) (Nat.zero_add _).symm]
    exact argsort_apply X r _)

end Cert.TopK.Ref

end
-- ==== Proof.Mask.lean ====
/-
# What the mask says, read at an index

The mask at `(r, k)` is an `and` of two bits (`fn_eq`): row `r`'s first `k + 1` values in falling order are strictly falling
(`inOrder_falls`), and no lane holds more than five values as great as the last of them (`few_card`).
-/
module

public import proofs.«01_k».proof.Proof.Ref

@[expose] public section

set_option maxRecDepth 65536

noncomputable section

namespace Cert.TopK.Ref

open Cert.On_well_separated Cert.On_well_separated.Gen
open Idealize.ShloMosaic
open Idealize.ShloMosaic.ValueIdx Idealize.ShloMosaic.WordCmp

/-- The first bit: place `j` is strictly above place `j + 1` for each `j < k`. -/
def inOrder (t : FVec Ideal S512x16 .f32) : IVec S512x16 1 :=
  Host.reduce IntOp.andi
    (ori (broadcastInDim S512x16x15 ![0, 1, 2] bcast_S512x1x15_S512x16x15_0_1_2
        (cmpf .ogt (broadcastInDim S512x1x15 ![0, 2] bcast_S512x15_S512x1x15_0_2 (extractStridedSlice S512x15 ![0, 0] t slices_S512x16_S512x15_0_0))
          (broadcastInDim S512x1x15 ![0, 2] bcast_S512x15_S512x1x15_0_2 (extractStridedSlice S512x15 ![0, 1] t slices_S512x16_S512x15_0_1))))
      (cmpi .sge (iotaInDim S512x16x15 32 2) (iotaInDim S512x16x15 32 1)))
    (constantI S_ 1 1#1) reducesTo_S512x16x15_S512x16_d2 h_S_

/-- Where a value is at least its row's place `k`. -/
def reach (X : FVec Ideal S512x32768 .f32) (t : FVec Ideal S512x16 .f32) : IVec S512x16x8x32x128 1 :=
  cmpf .oge (broadcastInDim S512x16x8x32x128 ![0, 1, 2, 3, 4] bcast_S512x1x8x32x128_S512x16x8x32x128_0_1_2_3_4
      (shapeCast S512x1x8x32x128 X shapeCasts_S512x32768_S512x1x8x32x128))
    (broadcastInDim S512x16x8x32x128 ![0, 1, 2, 3, 4] bcast_S512x16x1x1x1_S512x16x8x32x128_0_1_2_3_4
      (broadcastInDim S512x16x1x1x1 ![0, 1] bcast_S512x16_S512x16x1x1x1_0_1 t))

/-- How many values of a lane are. -/
def counts (X : FVec Ideal S512x32768 .f32) (t : FVec Ideal S512x16 .f32) : IVec S512x16x8x128 32 :=
  Host.reduce IntOp.addi (fun i => (reach X t i).setWidth 32) (constantI S_ 32 0#32) reducesTo_S512x16x8x32x128_S512x16x8x128_d3 h_S_

/-- The second bit: each lane has at most five. -/
def few (X : FVec Ideal S512x32768 .f32) (t : FVec Ideal S512x16 .f32) : IVec S512x16 1 :=
  Host.reduce IntOp.andi (cmpi .sle (counts X t) (broadcastInDim S512x16x8x128 ![] bcast_S_S512x16x8x128 (constantI S_ 32 5#32)))
    (constantI S_ 1 1#1) reducesTo_S512x16x8x128_S512x16_d2_3 h_S_

theorem fn_eq (X : FVec Ideal S512x32768 .bf16) : fn (F := Ideal) X = andi (inOrder (tops X)) (few X (tops X)) := by
  unfold fn fn_part1 inOrder few counts reach tops
  rfl

theorem inOrder_falls (t : FVec Ideal S512x16 .f32) (r : Fin 512) (k : Fin 16) (h : inOrder t (ix2 r k) = 1#1) (j : Fin 15) (hj : j.val < k.val) :
    (t (ix2 r ⟨j.val + 1, by omega⟩) : EReal) < t (ix2 r ⟨j.val, by omega⟩) := by
  have hx := (and_reduce _ _ _ _ (fun _ => rfl) _).mp h (ix3 r k j) (by
    funext a
    match a with
    | ⟨0, _⟩ => rfl
    | ⟨1, _⟩ => rfl)
  have hor : ∀ a b : BitVec 1, IntOp.ori a b = 1#1 → a = 1#1 ∨ b = 1#1 := by decide
  rcases hor _ _ hx with hx | hx
  · have e : broadcastInDim S512x16x15 ![0, 1, 2] bcast_S512x1x15_S512x16x15_0_1_2
        (cmpf .ogt (broadcastInDim S512x1x15 ![0, 2] bcast_S512x15_S512x1x15_0_2 (extractStridedSlice S512x15 ![0, 0] t slices_S512x16_S512x15_0_0))
          (broadcastInDim S512x1x15 ![0, 2] bcast_S512x15_S512x1x15_0_2 (extractStridedSlice S512x15 ![0, 1] t slices_S512x16_S512x15_0_1))) (ix3 r k j)
        = Ideal.cmp .ogt (t (ix2 r ⟨j.val, by omega⟩)) (t (ix2 r ⟨j.val + 1, by omega⟩)) := by
      rw [broadcastInDim_apply _ _ _ _ (ix3 r (0 : Fin 1) j) (fun a => by
        match a with
        | ⟨0, _⟩ => rfl
        | ⟨1, _⟩ => rfl
        | ⟨2, _⟩ => rfl)]
      have hb : ∀ y : FVec Ideal S512x15 .f32, broadcastInDim S512x1x15 ![0, 2] bcast_S512x15_S512x1x15_0_2 y (ix3 r (0 : Fin 1) j) = y (ix2 r j) :=
        fun y => broadcastInDim_apply _ _ _ _ _ (fun a => by
          match a with
          | ⟨0, _⟩ => rfl
          | ⟨1, _⟩ => rfl)
      show Ideal.cmp .ogt (broadcastInDim S512x1x15 _ _ _ _) (broadcastInDim S512x1x15 _ _ _ _) = _
      rw [hb, hb, slice2_axis1_apply 0 t _ r j (⟨j.val, by omega⟩ : Fin 16) (Nat.zero_add _).symm,
        slice2_axis1_apply 1 t _ r j (⟨j.val + 1, by omega⟩ : Fin 16) (Nat.add_comm _ _)]
    exact (ofBool_decide_eq_one_iff _).mp (e.symm.trans hx)
  · exfalso
    have hx' : IntOp.cmpi .sge (BitVec.ofNat 32 j.val) (BitVec.ofNat 32 k.val) = 1#1 := hx
    rw [cmpi_sge_eq, ofBool_decide_eq_one_iff, toInt_ofNat_of_lt (by norm_num; omega), toInt_ofNat_of_lt (by norm_num; omega)] at hx'
    omega

theorem reach_apply (X : FVec Ideal S512x32768 .f32) (t : FVec Ideal S512x16 .f32) (r : Fin 512) (k : Fin 16) (d : Fin 8) (i : Fin 32) (l : Fin 128)
    (h : (t (ix2 r k) : EReal) ≤ X (ix2 r ⟨4096 * d.val + 128 * i.val + l.val, by omega⟩)) : reach X t (ix5 r k d i l) = 1#1 := by
  have e1 : broadcastInDim S512x16x8x32x128 ![0, 1, 2, 3, 4] bcast_S512x1x8x32x128_S512x16x8x32x128_0_1_2_3_4
      (shapeCast S512x1x8x32x128 X shapeCasts_S512x32768_S512x1x8x32x128) (ix5 r k d i l) = X (ix2 r ⟨4096 * d.val + 128 * i.val + l.val, by omega⟩) :=
    (broadcastInDim_apply _ _ _ _ (ix5 r (0 : Fin 1) d i l) (fun a => by
      match a with
      | ⟨0, _⟩ => rfl
      | ⟨1, _⟩ => rfl
      | ⟨2, _⟩ => rfl
      | ⟨3, _⟩ => rfl
      | ⟨4, _⟩ => rfl)).trans (shapeCast_apply _ _ _ _ (by
        rw [Shape.rowMajor_val_two, Shape.rowMajor_val_five]
        show r.val * 32768 + (4096 * d.val + 128 * i.val + l.val) = (((r.val * 1 + 0) * 8 + d.val) * 32 + i.val) * 128 + l.val
        omega))
  have e2 : broadcastInDim S512x16x8x32x128 ![0, 1, 2, 3, 4] bcast_S512x16x1x1x1_S512x16x8x32x128_0_1_2_3_4
      (broadcastInDim S512x16x1x1x1 ![0, 1] bcast_S512x16_S512x16x1x1x1_0_1 t) (ix5 r k d i l) = t (ix2 r k) :=
    (broadcastInDim_apply _ _ _ _ (ix5 r k (0 : Fin 1) (0 : Fin 1) (0 : Fin 1)) (fun a => by
      match a with
      | ⟨0, _⟩ => rfl
      | ⟨1, _⟩ => rfl
      | ⟨2, _⟩ => rfl
      | ⟨3, _⟩ => rfl
      | ⟨4, _⟩ => rfl)).trans (broadcastInDim_apply _ _ _ _ _ (fun a => by
        match a with
        | ⟨0, _⟩ => rfl
        | ⟨1, _⟩ => rfl))
  show Ideal.cmp .oge (broadcastInDim S512x16x8x32x128 _ _ _ _) (broadcastInDim S512x16x8x32x128 _ _ _ _) = 1#1
  rw [e1, e2]
  exact (ofBool_decide_eq_one_iff _).mpr h

theorem few_card (X : FVec Ideal S512x32768 .f32) (t : FVec Ideal S512x16 .f32) (r : Fin 512) (k : Fin 16) (h : few X t (ix2 r k) = 1#1) (d : Fin 8) (l : Fin 128) :
    (Finset.univ.filter fun i : Fin 32 => (t (ix2 r k) : EReal) ≤ X (ix2 r ⟨4096 * d.val + 128 * i.val + l.val, by omega⟩)).card ≤ 5 := by
  have hx := (and_reduce _ _ _ _ (fun _ => rfl) _).mp h (ix4 r k d l) (by
    funext a
    match a with
    | ⟨0, _⟩ => rfl
    | ⟨1, _⟩ => rfl)
  have hc := card_le_count (reach X t) (constantI S_ 32 0#32) reducesTo_S512x16x8x32x128_S512x16x8x128_d3 h_S_ (fun _ => rfl)
    (by decide) (ix4 r k d l)
    ((Finset.univ.filter fun i : Fin 32 => (t (ix2 r k) : EReal) ≤ X (ix2 r ⟨4096 * d.val + 128 * i.val + l.val, by omega⟩)).image fun i => ix5 r k d i l)
    (fun j hj => by
      obtain ⟨i, hi, rfl⟩ := Finset.mem_image.mp hj
      refine ⟨?_, reach_apply X t r k d i l (Finset.mem_filter.mp hi).2⟩
      funext a
      match a with
      | ⟨0, _⟩ => rfl
      | ⟨1, _⟩ => rfl
      | ⟨2, _⟩ => rfl
      | ⟨3, _⟩ => rfl)
  rw [Finset.card_image_of_injective _ (fun i i' hii => by exact congrFun hii 3)] at hc
  refine hc.1.trans ?_
  have hx' : IntOp.cmpi .sle (counts X t (ix4 r k d l)) 5#32 = 1#1 := hx
  rw [cmpi_sle_eq, ofBool_decide_eq_one_iff, BitVec.toInt_eq_toNat_of_lt (by have := hc.2; unfold counts; omega)] at hx'
  have h5 : (5#32).toInt = 5 := by decide
  unfold counts at hx'
  omega

/-- What the mask gives at `(r, k)`. -/
theorem mask_gives (X : S512x32768.Idx → EReal) (r : Fin 512) (k : Fin 16) (h : fn (F := Ideal) X (ix2 r k) = 1#1) :
    (∀ j : Fin 15, j.val < k.val → tops X (ix2 r ⟨j.val + 1, by omega⟩) < tops X (ix2 r ⟨j.val, by omega⟩))
      ∧ ∀ (d : Fin 8) (l : Fin 128), (Finset.univ.filter fun i : Fin 32 => tops X (ix2 r k) ≤ X (ix2 r ⟨4096 * d.val + 128 * i.val + l.val, by omega⟩)).card ≤ 5 := by
  have hand : ∀ a b : BitVec 1, IntOp.andi a b = 1#1 → a = 1#1 ∧ b = 1#1 := by decide
  rw [fn_eq] at h
  obtain ⟨h1, h2⟩ := hand _ _ h
  exact ⟨fun j hj => inOrder_falls _ r k h1 j hj, fun d l => few_card X _ r k h2 d l⟩

end Cert.TopK.Ref

end
-- ==== Proof.Select.lean ====
/-
# Selecting the largest values with five registers per lane

The mathematics of the kernel's selection, over the extended reals and apart from any program. A lane keeps five registers
in falling order and inserts one value at a time (`Regs.insert`, `net`); a device takes the greatest head of its lanes again
and again and shifts the lanes that held it (`top`, `shifted`, `peel`); at last the values of all devices are gone through in
falling order, equal ones once (`falling`). `row_select` puts the three together: where the wanted values fall strictly
and no lane holds more than five values as great as the last of them, the outcome is those values.
-/
module

public import Mathlib.Data.EReal.Basic
public import Mathlib.Data.Finset.Lattice.Fold
public import Mathlib.Algebra.BigOperators.Fin
public import Mathlib.Algebra.Order.BigOperators.Group.Finset

@[expose] public section

noncomputable section

namespace Cert.TopK

/-! ## A list of registers -/

/-- Insertion: each register keeps the greater of itself and the value that comes by, and hands the smaller on. -/
def ins : List EReal → EReal → List EReal
  | [], _ => []
  | r :: rs, t => max r t :: ins rs (min r t)

/-- What the last register hands on. -/
def out : List EReal → EReal → EReal
  | [], t => t
  | r :: rs, t => out rs (min r t)

theorem out_ins_perm (rs : List EReal) : ∀ t, (out rs t :: ins rs t).Perm (t :: rs) := by
  induction rs with
  | nil => exact fun t => List.Perm.refl _
  | cons r rs ih =>
    intro t
    refine (List.Perm.swap _ _ _).trans (((ih (min r t)).cons (max r t)).trans ?_)
    rcases le_total r t with h | h
    · rw [max_eq_right h, min_eq_left h]
    · rw [max_eq_left h, min_eq_right h]
      exact List.Perm.swap _ _ _

theorem length_ins (rs : List EReal) : ∀ t, (ins rs t).length = rs.length := by
  induction rs with
  | nil => exact fun _ => rfl
  | cons r rs ih => exact fun t => congrArg (· + 1) (ih _)

theorem mem_ins {rs : List EReal} {t w : EReal} (h : w ∈ ins rs t) : w = t ∨ w ∈ rs :=
  List.mem_cons.1 ((out_ins_perm rs t).mem_iff.1 (List.mem_cons_of_mem _ h))

theorem out_le (rs : List EReal) : ∀ t, out rs t ≤ t ∧ ∀ w ∈ ins rs t, out rs t ≤ w := by
  induction rs with
  | nil => exact fun t => ⟨le_refl _, by simp [ins]⟩
  | cons r rs ih =>
    intro t
    obtain ⟨h1, h2⟩ := ih (min r t)
    refine ⟨h1.trans (min_le_right _ _), fun w hw => ?_⟩
    rcases List.mem_cons.1 hw with rfl | hw
    · exact h1.trans ((min_le_left _ _).trans (le_max_left _ _))
    · exact h2 w hw

theorem le_ins (d : EReal) (rs : List EReal) : ∀ t, (∀ w ∈ rs, d ≤ w) → ∀ w ∈ ins rs t, d ≤ w := by
  induction rs with
  | nil => intro t _ w hw; simp [ins] at hw
  | cons r rs ih =>
    intro t h w hw
    rcases List.mem_cons.1 hw with rfl | hw
    · exact (h r List.mem_cons_self).trans (le_max_left _ _)
    · exact ih _ (fun w hw => h w (List.mem_cons_of_mem _ hw)) w hw

theorem falling_ins (rs : List EReal) : ∀ t, rs.Pairwise (· ≥ ·) → (ins rs t).Pairwise (· ≥ ·) := by
  induction rs with
  | nil => exact fun _ _ => List.Pairwise.nil
  | cons r rs ih =>
    intro t h
    rw [List.pairwise_cons] at h
    refine List.pairwise_cons.2 ⟨fun w hw => ?_, ih _ h.2⟩
    rcases mem_ins hw with rfl | hw
    · exact (min_le_left _ _).trans (le_max_left _ _)
    · exact (h.1 w hw).trans (le_max_left _ _)

/-! ## Five registers -/

/-- The five registers of one lane, the greatest first. -/
structure Regs where
  a : EReal
  b : EReal
  c : EReal
  d : EReal
  e : EReal

namespace Regs

def toList (s : Regs) : List EReal := [s.a, s.b, s.c, s.d, s.e]

/-- One value inserted. -/
def insert (s : Regs) (t : EReal) : Regs :=
  ⟨max s.a t, max s.b (min s.a t), max s.c (min s.b (min s.a t)), max s.d (min s.c (min s.b (min s.a t))),
    max s.e (min s.d (min s.c (min s.b (min s.a t))))⟩

/-- The greatest value dropped. -/
def tail (s : Regs) : Regs := ⟨s.b, s.c, s.d, s.e, ⊥⟩

theorem toList_insert (s : Regs) (t : EReal) : (s.insert t).toList = ins s.toList t := rfl

theorem length_toList (s : Regs) : s.toList.length = 5 := rfl

end Regs

/-- The registers after the values `g 0, …, g n`: the first in the first register, the others inserted. -/
def net (z : EReal) (g : ℕ → EReal) (n : ℕ) : Regs := Nat.rec ⟨g 0, z, z, z, z⟩ (fun n s => s.insert (g (n + 1))) n

/-- The values seen by a lane, with the four that its empty registers began with. -/
def seen (g : ℕ → EReal) (n : ℕ) : List EReal := (List.range (n + 1)).map g ++ [⊥, ⊥, ⊥, ⊥]

/-- The registers hold, in falling order, the greatest of the values seen: all others are below them. -/
theorem net_inv (g : ℕ → EReal) (n : ℕ) : ∃ D : List EReal, (D ++ (net ⊥ g n).toList).Perm (seen g n)
    ∧ (net ⊥ g n).toList.Pairwise (· ≥ ·) ∧ ∀ d ∈ D, ∀ w ∈ (net ⊥ g n).toList, d ≤ w := by
  induction n with
  | zero =>
    refine ⟨[], List.Perm.refl _, ?_, by simp⟩
    simp [net, Regs.toList]
  | succ n ih =>
    obtain ⟨D, hp, hs, hD⟩ := ih
    have e : (net ⊥ g (n + 1)).toList = ins (net ⊥ g n).toList (g (n + 1)) := rfl
    rw [e]
    generalize (net ⊥ g n).toList = T at hp hs hD
    refine ⟨out T (g (n + 1)) :: D, ?_, falling_ins _ _ hs, fun d hd => ?_⟩
    · have h1 : (out T (g (n + 1)) :: D ++ ins T (g (n + 1))).Perm (D ++ (out T (g (n + 1)) :: ins T (g (n + 1)))) :=
        (List.perm_middle).symm
      have h2 : (D ++ (g (n + 1) :: T)).Perm (g (n + 1) :: (D ++ T)) := List.perm_middle
      have h3 : (g (n + 1) :: seen g n).Perm (seen g (n + 1)) := by
        unfold seen
        rw [List.range_succ (n := n + 1), List.map_append, List.map_singleton, List.append_assoc]
        exact (List.perm_middle (l₁ := (List.range (n + 1)).map g) (l₂ := [⊥, ⊥, ⊥, ⊥]) (a := g (n + 1))).symm
      exact h1.trans (((out_ins_perm T (g (n + 1))).append_left D).trans (h2.trans ((hp.cons _).trans h3)))
    · rcases List.mem_cons.1 hd with rfl | hd
      · exact (out_le T _).2
      · exact le_ins d T _ (hD d hd)

theorem mem_seen {g : ℕ → EReal} {n : ℕ} {w : EReal} (h : w ∈ seen g n) : w = ⊥ ∨ ∃ i ≤ n, w = g i := by
  rcases List.mem_append.1 h with h | h
  · obtain ⟨i, hi, rfl⟩ := List.mem_map.1 h
    exact Or.inr ⟨i, Nat.lt_succ_iff.1 (List.mem_range.1 hi), rfl⟩
  · left
    simpa using h

/-- A register holds a value of the lane, or nothing. -/
theorem net_mem {g : ℕ → EReal} {n : ℕ} {w : EReal} (h : w ∈ (net ⊥ g n).toList) : w = ⊥ ∨ ∃ i ≤ n, w = g i := by
  obtain ⟨D, hp, -, -⟩ := net_inv g n
  exact mem_seen (hp.mem_iff.1 (List.mem_append_right _ h))

theorem countP_seen (g : ℕ → EReal) (n : ℕ) (p : EReal → Prop) [DecidablePred p] (hp : ¬ p ⊥) :
    (seen g n).countP (fun w => decide (p w)) = ((Finset.range (n + 1)).filter fun i => p (g i)).card := by
  unfold seen
  have h4 : List.countP (fun w => decide (p w)) ([⊥, ⊥, ⊥, ⊥] : List EReal) = 0 := by simp [hp]
  rw [List.countP_append, h4, Nat.add_zero, List.countP_map, List.countP_eq_length_filter]
  rfl

/-- Where at most five values of the lane are `τ` or more, each of them is in a register. -/
theorem net_keeps {g : ℕ → EReal} {n : ℕ} {τ : EReal} (hτ : τ ≠ ⊥)
    (h5 : ((Finset.range (n + 1)).filter fun i => τ ≤ g i).card ≤ 5) {i : ℕ} (hi : i ≤ n) (hv : τ ≤ g i) :
    g i ∈ (net ⊥ g n).toList := by
  obtain ⟨D, hp, -, hD⟩ := net_inv g n
  have hm : g i ∈ seen g n := List.mem_append_left _ (List.mem_map.2 ⟨i, List.mem_range.2 (Nat.lt_succ_iff.2 hi), rfl⟩)
  rcases List.mem_append.1 (hp.mem_iff.2 hm) with hd | hd
  · exfalso
    have hc := (hp.countP_eq (fun w => decide (τ ≤ w))).trans (countP_seen g n (τ ≤ ·) (fun h => hτ (le_bot_iff.1 h)))
    rw [List.countP_append] at hc
    have h1 : 0 < D.countP (fun w => decide (τ ≤ w)) := List.countP_pos_iff.2 ⟨_, hd, by simpa using hv⟩
    have h2 : (net ⊥ g n).toList.countP (fun w => decide (τ ≤ w)) = 5 :=
      (List.countP_eq_length.2 fun w hw => by simpa using hv.trans (hD _ hd w hw)).trans (Regs.length_toList _)
    omega
  · exact hd

/-- The registers hold no more values above `v` than the lane. -/
theorem net_count (g : ℕ → EReal) (n : ℕ) (v : EReal) :
    (net ⊥ g n).toList.countP (fun w => decide (v < w)) ≤ ((Finset.range (n + 1)).filter fun i => v < g i).card := by
  obtain ⟨D, hp, -, -⟩ := net_inv g n
  have hc := (hp.countP_eq (fun w => decide (v < w))).trans (countP_seen g n (v < ·) not_lt_bot)
  rw [List.countP_append] at hc
  omega

theorem net_falling (g : ℕ → EReal) (n : ℕ) : (net ⊥ g n).toList.Pairwise (· ≥ ·) := by
  obtain ⟨D, -, hs, -⟩ := net_inv g n
  exact hs

/-! ## The greatest head, again and again -/

/-- The greatest head of the lanes. -/
def top {L : ℕ} (R : Fin L → Regs) : EReal := Finset.univ.sup fun l => (R l).a

/-- Every lane whose head is the greatest drops it. -/
def shifted {L : ℕ} (R : Fin L → Regs) : Fin L → Regs := fun l => if (R l).a = top R then (R l).tail else R l

/-- The lanes after `n` rounds. -/
def peel {L : ℕ} (R : Fin L → Regs) (n : ℕ) : Fin L → Regs := Nat.rec R (fun _ R => shifted R) n

theorem peel_shifted {L : ℕ} (R : Fin L → Regs) (n : ℕ) : peel (shifted R) n = peel R (n + 1) := by
  induction n with
  | zero => rfl
  | succ n ih => exact congrArg shifted ih

theorem mem_tail {s : Regs} {w : EReal} (h : w ∈ s.tail.toList) : w = ⊥ ∨ w ∈ s.toList := by
  simp only [Regs.tail, Regs.toList, List.mem_cons, List.not_mem_nil, or_false] at h ⊢
  tauto

theorem mem_shifted {L : ℕ} {R : Fin L → Regs} {l : Fin L} {w : EReal} (h : w ∈ (shifted R l).toList) : w = ⊥ ∨ w ∈ (R l).toList := by
  unfold shifted at h
  split at h
  · exact mem_tail h
  · exact Or.inr h

theorem mem_peel {L : ℕ} {R : Fin L → Regs} {n : ℕ} {l : Fin L} {w : EReal} (h : w ∈ (peel R n l).toList) : w = ⊥ ∨ w ∈ (R l).toList := by
  induction n with
  | zero => exact Or.inr h
  | succ n ih =>
    rcases mem_shifted h with h | h
    · exact Or.inl h
    · exact ih h

/-- A round's outcome is a value of some lane, or nothing. -/
theorem top_peel_mem {L : ℕ} (R : Fin L → Regs) (n : ℕ) : top (peel R n) = ⊥ ∨ ∃ l, top (peel R n) ∈ (R l).toList := by
  rcases isEmpty_or_nonempty (Fin L) with h0 | h0
  · left; simp [top]
  · obtain ⟨l, -, hl⟩ := Finset.exists_mem_eq_sup (Finset.univ : Finset (Fin L)) Finset.univ_nonempty (fun l => (peel R n l).a)
    have hm : top (peel R n) ∈ (peel R n l).toList := by
      rw [top, hl]; exact List.mem_cons_self
    rcases mem_peel hm with h | h
    · exact Or.inl h
    · exact Or.inr ⟨l, h⟩

theorem falling_tail {s : Regs} (h : s.toList.Pairwise (· ≥ ·)) : s.tail.toList.Pairwise (· ≥ ·) := by
  simp only [Regs.tail, Regs.toList, List.pairwise_cons, List.mem_cons, List.not_mem_nil, or_false] at h ⊢
  obtain ⟨-, hb, hc, hd, -⟩ := h
  refine ⟨?_, ?_, ?_, ?_, by simp, List.Pairwise.nil⟩
  · rintro w (rfl | rfl | rfl | rfl)
    exacts [hb _ (by simp), hb _ (by simp), hb _ (by simp), bot_le]
  · rintro w (rfl | rfl | rfl)
    exacts [hc _ (by simp), hc _ (by simp), bot_le]
  · rintro w (rfl | rfl)
    exacts [hd _ (by simp), bot_le]
  · rintro w rfl
    exact bot_le

theorem head_ge {s : Regs} (h : s.toList.Pairwise (· ≥ ·)) {w : EReal} (hw : w ∈ s.toList) : w ≤ s.a := by
  rcases List.mem_cons.1 hw with rfl | hw
  · exact le_refl _
  · exact (List.pairwise_cons.1 h).1 w hw

theorem countP_tail (s : Regs) (v : EReal) :
    s.tail.toList.countP (fun w => decide (v < w)) + (if v < s.a then 1 else 0) = s.toList.countP (fun w => decide (v < w)) := by
  simp only [Regs.tail, Regs.toList, List.countP_cons, List.countP_nil, not_lt_bot, decide_false, decide_eq_true_eq]
  simp

/-- A value that a lane holds comes out in round `n` at the latest, if at most `n` values are above it. -/
theorem peel_reaches {L : ℕ} (v : EReal) (N : ℕ) : ∀ R : Fin L → Regs, (∀ l, (R l).toList.Pairwise (· ≥ ·)) → (∃ l, v ∈ (R l).toList) →
    ∑ l, (R l).toList.countP (fun w => decide (v < w)) ≤ N → ∃ n ≤ N, top (peel R n) = v := by
  induction N with
  | zero =>
    intro R hs ⟨l, hl⟩ h0
    refine ⟨0, le_refl _, le_antisymm (Finset.sup_le fun l' _ => ?_) ((head_ge (hs l) hl).trans (Finset.le_sup (f := fun l => (R l).a) (Finset.mem_univ l)))⟩
    by_contra hv
    have h1 : 0 < (R l').toList.countP (fun w => decide (v < w)) :=
      List.countP_pos_iff.2 ⟨_, List.mem_cons_self, decide_eq_true (lt_of_not_ge hv)⟩
    have h2 := Finset.single_le_sum (f := fun l => (R l).toList.countP (fun w => decide (v < w))) (fun _ _ => Nat.zero_le _) (Finset.mem_univ l')
    exact absurd (h1.trans_le (h2.trans h0)) (lt_irrefl _)
  | succ N ih =>
    intro R hs ⟨l, hl⟩ h0
    by_cases hv : top R = v
    · exact ⟨0, Nat.zero_le _, hv⟩
    · have hle : v ≤ top R := (head_ge (hs l) hl).trans (Finset.le_sup (f := fun l => (R l).a) (Finset.mem_univ l))
      have hlt : v < top R := lt_of_le_of_ne hle (Ne.symm hv)
      have hl' : ∃ l, v ∈ (shifted R l).toList := by
        refine ⟨l, ?_⟩
        unfold shifted
        split
        · rename_i he
          rcases List.mem_cons.1 hl with h | h
          · exact absurd (he.symm.trans h.symm) hv
          · simp only [Regs.tail, Regs.toList, List.mem_cons, List.not_mem_nil, or_false] at h ⊢
            tauto
        · exact hl
      have hs' : ∀ l, (shifted R l).toList.Pairwise (· ≥ ·) := by
        intro l
        unfold shifted
        split
        · exact falling_tail (hs l)
        · exact hs l
      have hc : ∑ l, (shifted R l).toList.countP (fun w => decide (v < w)) < ∑ l, (R l).toList.countP (fun w => decide (v < w)) := by
        obtain ⟨l₀, -, hl₀⟩ := Finset.exists_mem_eq_sup (Finset.univ : Finset (Fin L)) ⟨l, Finset.mem_univ l⟩ (fun l => (R l).a)
        refine Finset.sum_lt_sum (fun l _ => ?_) ⟨l₀, Finset.mem_univ _, ?_⟩
        · unfold shifted
          split
          · have := countP_tail (R l) v; omega
          · exact le_refl _
        · have he : (R l₀).a = top R := hl₀.symm
          have := countP_tail (R l₀) v
          rw [he, if_pos hlt] at this
          unfold shifted
          rw [if_pos he]
          omega
      obtain ⟨n, hn, h⟩ := ih (shifted R) hs' hl' (by omega)
      exact ⟨n + 1, by omega, by rw [← peel_shifted]; exact h⟩

/-! ## The values in falling order, equal ones once -/

/-- The greatest value, then the greatest below it, and so on. -/
def falling {n : ℕ} (c : Fin n → EReal) (k : ℕ) : EReal :=
  Nat.rec (Finset.univ.sup c) (fun _ m => Finset.univ.sup fun i => if c i < m then c i else ⊥) k

theorem falling_eq {n : ℕ} (c : Fin n → EReal) (t : ℕ → EReal) (k : ℕ) (hf : ∀ j < k, t (j + 1) < t j)
    (ht : ∀ j ≤ k, ∃ i, c i = t j) (hc : ∀ i, t k ≤ c i → ∃ j ≤ k, c i = t j) : ∀ j ≤ k, falling c j = t j := by
  have anti : ∀ i j, i ≤ j → j ≤ k → t j ≤ t i := by
    intro i j hij
    induction hij with
    | refl => exact fun _ => le_refl _
    | step h ih => exact fun hk => (hf _ hk).le.trans (ih (by omega))
  intro j
  induction j with
  | zero =>
    intro _
    refine le_antisymm (Finset.sup_le fun i _ => ?_) ?_
    · rcases le_total (t k) (c i) with h | h
      · obtain ⟨j, hj, e⟩ := hc i h
        rw [e]; exact anti 0 j (Nat.zero_le _) hj
      · exact h.trans (anti 0 k (Nat.zero_le _) (le_refl _))
    · obtain ⟨i, hi⟩ := ht 0 (Nat.zero_le _)
      rw [← hi]; exact Finset.le_sup (Finset.mem_univ i)
  | succ j ih =>
    intro hj
    have e : falling c (j + 1) = Finset.univ.sup fun i => if c i < falling c j then c i else ⊥ := rfl
    rw [e, ih (by omega)]
    refine le_antisymm (Finset.sup_le fun i _ => ?_) ?_
    · split
      · rename_i hlt
        rcases le_total (t k) (c i) with h | h
        · obtain ⟨j', hj', e⟩ := hc i h
          rw [e] at hlt ⊢
          refine anti (j + 1) j' ?_ hj'
          by_contra hn
          exact absurd hlt (not_lt.2 (anti j' j (by omega) (by omega)))
        · exact h.trans (anti (j + 1) k hj (le_refl _))
      · exact bot_le
    · obtain ⟨i, hi⟩ := ht (j + 1) hj
      have h := Finset.le_sup (f := fun i => if c i < t j then c i else ⊥) (Finset.mem_univ i)
      rw [hi, if_pos (hf j (by omega))] at h
      exact h

/-! ## One row -/

/-- The sixteen values that a device selects from its lanes `x l 0, …, x l 31`. -/
def chosen {L : ℕ} (x : Fin L → ℕ → EReal) (j : ℕ) : EReal := top (peel (fun l => net ⊥ (x l) 31) j)

/-- **One row.** `x d l i` is the `i`-th value of lane `l` of device `d`; `t 0, …, t k` are the wanted values. If they fall
    strictly, are the row's values down to `t k`, no lane holds more than five values from `t k` up, and at most fifteen places of a
    device hold values above any of them, then what the devices select, gone through in falling order, is `t k` at place `k`. -/
theorem row_select {L : ℕ} (x : Fin 8 → Fin L → ℕ → EReal) (t : ℕ → EReal) (k : ℕ) (hf : ∀ j < k, t (j + 1) < t j)
    (ht : ∀ j ≤ k, ∃ d l, ∃ i ≤ 31, x d l i = t j) (hx : ∀ d l, ∀ i ≤ 31, t k ≤ x d l i → ∃ j ≤ k, x d l i = t j)
    (h15 : ∀ d, ∀ j ≤ k, ∑ l, ((Finset.range 32).filter fun i => t j < x d l i).card ≤ 15)
    (h5 : ∀ d l, ((Finset.range 32).filter fun i => t k ≤ x d l i).card ≤ 5)
    (c : Fin 128 → EReal) (hc : ∀ i : Fin 128, c i = chosen (x ⟨i.val / 16, by omega⟩) (i.val % 16)) : falling c k = t k := by
  have anti : ∀ j ≤ k, t k ≤ t j := by
    intro j hj
    induction hj using Nat.decreasingInduction with
    | self => exact le_refl _
    | of_succ j hj ih => exact ih.trans (hf j hj).le
  have hbot : t k ≠ ⊥ := by
    intro h
    obtain ⟨d, l, -⟩ := ht k (le_refl _)
    have := h5 d l
    rw [h] at this
    simp at this
  refine falling_eq c t k hf (fun j hj => ?_) (fun i hi => ?_) k (le_refl _)
  · obtain ⟨d, l, i, hi, e⟩ := ht j hj
    obtain ⟨n, hn, h⟩ := peel_reaches (t j) 15 (fun l => net ⊥ (x d l) 31) (fun l => net_falling _ _)
      ⟨l, e ▸ net_keeps hbot (h5 d l) hi (e.symm ▸ anti j hj)⟩
      ((Finset.sum_le_sum fun l _ => net_count (x d l) 31 (t j)).trans (h15 d j hj))
    refine ⟨⟨16 * d.val + n, by omega⟩, ?_⟩
    rw [hc]
    have e1 : (16 * d.val + n) / 16 = d.val := by omega
    have e2 : (16 * d.val + n) % 16 = n := by omega
    simp only [e1, e2]
    exact h
  · rw [hc, chosen] at hi ⊢
    rcases top_peel_mem (fun l => net ⊥ (x ⟨i.val / 16, by omega⟩ l) 31) (i.val % 16) with h | ⟨l, h⟩
    · exact absurd (le_bot_iff.1 (h ▸ hi : t k ≤ ⊥)) hbot
    · rcases net_mem h with h | ⟨i', hi', h⟩
      · exact absurd (le_bot_iff.1 (h ▸ hi : t k ≤ ⊥)) hbot
      · obtain ⟨j, hj, e⟩ := hx _ l i' hi' (h ▸ hi)
        exact ⟨j, hj, h.trans e⟩

end Cert.TopK

end
-- ==== Proof.Lanes.lean ====
/-
# What the kernel selects on one device, read at a row

The lane network of the kernel's body as `net` (Select.lean) lane by lane (`net_at_5` … `net_at_31`), the sixteen rounds after
it as a step on five vectors (`VRegs.drop`), and from both the sixteen values that a device writes for a row (`locV_apply`).
-/
module

public import proofs.«01_k».proof.Proof.Locals
public import proofs.«01_k».proof.Proof.Select
public import Idealize.ShloMosaic.PureOps.Ideal
public import Idealize.ShloMosaic.PureOps.Ideal.Laws
public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.Pipeline.Value

@[expose] public section

set_option maxRecDepth 65536

noncomputable section

namespace Cert.TopK

open Cert.KernelIdeal Cert.KernelIdeal.Gen
open Idealize.ShloMosaic Idealize.ShloMosaic.TcCoe Idealize.ShloMosaic.FloatOps
open Idealize.ShloMosaic.ValueIdx

/-! ## The groups -/

/-- The `n`-th group of 128 columns of a device's block: one value per lane. -/
def grp (x : Vec Ideal S512x4096 .bf16) : ℕ → FVec Ideal S512x128 .bf16
  | 0 => k0_pay2 x
  | 1 => k0_pay3 x
  | 2 => k0_pay4 x
  | 3 => k0_pay5 x
  | 4 => k0_pay6 x
  | 5 => k0_pay7 x
  | 6 => k0_pay8 x
  | 7 => k0_pay9 x
  | 8 => k0_pay10 x
  | 9 => k0_pay11 x
  | 10 => k0_pay12 x
  | 11 => k0_pay13 x
  | 12 => k0_pay14 x
  | 13 => k0_pay15 x
  | 14 => k0_pay16 x
  | 15 => k0_pay17 x
  | 16 => k0_pay18 x
  | 17 => k0_pay19 x
  | 18 => k0_pay20 x
  | 19 => k0_pay21 x
  | 20 => k0_pay22 x
  | 21 => k0_pay23 x
  | 22 => k0_pay24 x
  | 23 => k0_pay25 x
  | 24 => k0_pay26 x
  | 25 => k0_pay27 x
  | 26 => k0_pay28 x
  | 27 => k0_pay29 x
  | 28 => k0_pay30 x
  | 29 => k0_pay31 x
  | 30 => k0_pay32 x
  | 31 => k0_pay33 x
  | _ => k0_pay2 x

theorem cut_apply (x : Vec Ideal S512x4096 .bf16) (o : ℕ) (h : S512x4096.Slices ![0, o] S512x128) (r : Fin 512) (l : Fin 128)
    (k : Fin 4096) (hk : k.val = o + l.val) : extractStridedSlice S512x128 ![0, o] (k0_pay1 x) h (ix2 r l) = x (ix2 r k) :=
  (slice2_axis1_apply o (k0_pay1 x) h r l k hk).trans (shapeCast_apply x _ _ _ rfl)

theorem grp_apply (x : Vec Ideal S512x4096 .bf16) (n : ℕ) (hn : n < 32) (r : Fin 512) (l : Fin 128) :
    grp x n (ix2 r l) = x (ix2 r ⟨128 * n + l.val, by omega⟩) := by
  interval_cases n <;> exact cut_apply x _ (by decide) r l _ rfl

/-! ## The network -/

/-- What an empty register and a maximum begin with: the value below all others. -/
abbrev z : EReal := Ideal.ofBits .f32 0xFF800000#32

theorem z_eq : z = ⊥ := by simp [z, Ideal.ofBits, Ideal.ieee]

theorem zb_eq : Ideal.ofBits .bf16 0xFF80#16 = ⊥ := by simp [Ideal.ofBits, Ideal.ieee]

/-- The registers after `k` more values. -/
def more (g : ℕ → EReal) (n k : ℕ) (s : Regs) : Regs := Nat.rec s (fun j s => s.insert (g (n + j + 1))) k

theorem net_add (y : EReal) (g : ℕ → EReal) (n k : ℕ) : net y g (n + k) = more g n k (net y g n) := by
  induction k with
  | zero => rfl
  | succ k ih => exact congrArg (fun s => s.insert (g (n + k + 1))) ih

section Network

variable (x : Vec Ideal S512x4096 .bf16) (i : S512x128.Idx)

theorem net_at_5 : net z (fun n => grp x n i) 5 = ⟨w114 x i, w117 x i, w120 x i, w122 x i, w124 x i⟩ := by rfl

theorem net_at_11 : net z (fun n => grp x n i) 11 = ⟨w180 x i, w183 x i, max (w175 x i) (w185 x i), max (w177 x i) (min (w175 x i) (w185 x i)),
    max (w179 x i) (min (w177 x i) (min (w175 x i) (w185 x i)))⟩ := by
  rw [net_add _ _ 5 6, net_at_5]; rfl

theorem net_at_16 : net z (fun n => grp x n i) 16 = ⟨w235 x i, w238 x i, w241 x i, w243 x i, w245 x i⟩ := by
  rw [net_add _ _ 11 5, net_at_11]; rfl

theorem net_at_22 : net z (fun n => grp x n i) 22 = ⟨w301 x i, w304 x i, max (w296 x i) (min (w293 x i) (w305 x i)), max (w298 x i) (min (w296 x i) (min (w293 x i) (w305 x i))),
    max (w300 x i) (min (w298 x i) (min (w296 x i) (min (w293 x i) (w305 x i))))⟩ := by
  rw [net_add _ _ 16 6, net_at_16]; rfl

theorem net_at_27 : net z (fun n => grp x n i) 27 = ⟨w356 x i, w359 x i, w362 x i, w364 x i, max (w355 x i) (w365 x i)⟩ := by
  rw [net_add _ _ 22 5, net_at_22]; rfl

theorem net_at_31 : net z (fun n => grp x n i) 31 = ⟨k0_pay254 (k0_pay30 x) (k0_pay31 x) (k0_pay32 x) (k0_pay33 x) (w356 x) i,
    k0_pay256 (k0_pay30 x) (k0_pay31 x) (k0_pay32 x) (k0_pay33 x) (w356 x) (w359 x) i,
    k0_pay258 (k0_pay30 x) (k0_pay31 x) (k0_pay32 x) (k0_pay33 x) (w356 x) (w359 x) (w362 x) i,
    k0_pay260 (k0_pay30 x) (k0_pay31 x) (k0_pay32 x) (k0_pay33 x) (w356 x) (w359 x) (w362 x) (w364 x) i,
    k0_pay261 (k0_pay30 x) (k0_pay31 x) (k0_pay32 x) (k0_pay33 x) (w355 x) (w356 x) (w359 x) (w362 x) (w364 x) (w365 x) i⟩ := by
  rw [net_add _ _ 27 4, net_at_27]; rfl
end Network

/-! ## The rounds -/

/-- The greatest value of each row. -/
def vm (v : FVec Ideal S512x128 .f32) : FVec Ideal S512 .f32 :=
  multiReduction .maximumf [1] S512 v 0xFF800000#32 reduces_S512x128_S512 (.inl rfl) rfl

theorem vm_apply (v : FVec Ideal S512x128 .f32) (r : Fin 512) : vm v (ix1 r) = Finset.univ.sup fun l : Fin 128 => v (ix2 r l) := by
  have h := Ideal.multiReduction_maximumf_single v 0xFF800000#32 reduces_S512x128_S512 (.inl rfl) rfl (ix1 r)
  refine h.trans ?_
  rw [show (FloatOps.ofBits FTy.f32 0xFF800000#32 : Ideal FTy.f32) = (⊥ : EReal) from z_eq]
  refine congrArg (Finset.fold max (⊥ : EReal) · (Finset.univ : Finset (Fin 128))) (funext fun l => congrArg v ?_)
  exact eq_ix2 _

/-- A value per row, spread over the row's lanes. -/
def spread (m : S512.Idx → EReal) : S512x128.Idx → EReal :=
  broadcastTo S512x128 (shapeCast S512x1 m shapeCasts_S512_S512x1) broadcasts_S512x1_S512x128

theorem spread_apply (m : S512.Idx → EReal) (r : Fin 512) (l : Fin 128) : spread m (ix2 r l) = m (ix1 r) := by
  unfold spread
  rw [broadcastTo_apply _ _ _ (ix2 r (0 : Fin 1)) (fun a => by match a with | ⟨0, _⟩ => rfl | ⟨1, _⟩ => rfl)]
  exact shapeCast_a_a1_apply _ _ _ _

/-- The five registers of all lanes of all rows. -/
structure VRegs where
  a : FVec Ideal S512x128 .f32
  b : FVec Ideal S512x128 .f32
  c : FVec Ideal S512x128 .f32
  d : FVec Ideal S512x128 .f32
  e : FVec Ideal S512x128 .f32

/-- The lanes whose head is `m` of their row drop it. -/
def VRegs.drop (m : S512.Idx → EReal) (s : VRegs) : VRegs :=
  ⟨select (cmpf (F := Ideal) (φ := .f32) .oeq s.a (spread m)) s.b s.a, select (cmpf (F := Ideal) (φ := .f32) .oeq s.a (spread m)) s.c s.b,
    select (cmpf (F := Ideal) (φ := .f32) .oeq s.a (spread m)) s.d s.c, select (cmpf (F := Ideal) (φ := .f32) .oeq s.a (spread m)) s.e s.d,
    select (cmpf (F := Ideal) (φ := .f32) .oeq s.a (spread m)) (broadcast S512x128 z) s.e⟩

/-- The registers of row `r`. -/
def VRegs.row (s : VRegs) (r : Fin 512) (l : Fin 128) : Regs := ⟨s.a (ix2 r l), s.b (ix2 r l), s.c (ix2 r l), s.d (ix2 r l), s.e (ix2 r l)⟩

theorem select_oeq {α : Type} (a b : EReal) (x y : α) : Scalar.select (Ideal.cmp .oeq a b) x y = if a = b then x else y := by
  unfold Scalar.select Ideal.cmp
  by_cases h : a = b <;> simp [h]

theorem VRegs.row_drop (s : VRegs) (r : Fin 512) : (s.drop (vm s.a)).row r = shifted (s.row r) := by
  funext l
  have e : spread (vm s.a) (ix2 r l) = top (s.row r) := (spread_apply _ r l).trans (vm_apply _ r)
  have h : ∀ x y : S512x128.Idx → EReal, select (cmpf (F := Ideal) (φ := .f32) .oeq s.a (spread (vm s.a))) x y (ix2 r l)
      = if (s.row r l).a = top (s.row r) then x (ix2 r l) else y (ix2 r l) := fun x y =>
    (select_oeq _ _ _ _).trans (by rw [e]; rfl)
  unfold shifted VRegs.drop
  conv_lhs => unfold VRegs.row
  simp only [h]
  split
  · unfold Regs.tail VRegs.row
    rw [broadcast_apply, z_eq]
  · rfl

/-- One round: every lane whose head is its row's greatest drops it. -/
def VRegs.step (s : VRegs) : VRegs := s.drop (vm s.a)

/-- `n` rounds. -/
def rounds (s : VRegs) (n : ℕ) : VRegs := Nat.rec s (fun _ s => s.step) n

theorem rounds_succ (s : VRegs) (n : ℕ) : rounds s (n + 1) = (rounds s n).step := rfl

theorem rounds_add (s : VRegs) (n k : ℕ) : rounds s (n + k) = rounds (rounds s n) k := by
  induction k with
  | zero => rfl
  | succ k ih => rw [← Nat.add_assoc, rounds_succ, ih, rounds_succ]

section Runs

variable (a b c d e : FVec Ideal S512x128 .f32) (m : FVec Ideal S512 .f32)

/-! The first run of five rounds in the body's arithmetic: each round is a step from the one before. -/

def fst1 : VRegs := ⟨k0_pay271 a b m, k0_pay272 a b c m, k0_pay273 a c d m, k0_pay274 a d e m, k0_pay275 a e m⟩

theorem fst1_eq (hm : m = vm a) : fst1 a b c d e m = rounds ⟨a, b, c, d, e⟩ 1 := by
  subst hm; rfl

theorem fst1_max : k0_pay276 a b m = vm (fst1 a b c d e m).a := by rfl

def fst2 : VRegs := ⟨k0_pay278 a b c m, k0_pay279 a b c d m, k0_pay280 a b c d e m, k0_pay281 a b d e m, k0_pay282 a b e m⟩

theorem fst2_eq (hm : m = vm a) : fst2 a b c d e m = rounds ⟨a, b, c, d, e⟩ 2 := by
  have h : fst2 a b c d e m = (fst1 a b c d e m).drop (k0_pay276 a b m) := by rfl
  rw [h, fst1_max, fst1_eq a b c d e m hm]; rfl

theorem fst2_max : k0_pay283 a b c m = vm (fst2 a b c d e m).a := by rfl

def fst3 : VRegs := ⟨k0_pay285 a b c d m, k0_pay286 a b c d e m, k0_pay287 a b c d e m, k0_pay288 a b c d e m, k0_pay289 a b c e m⟩

theorem fst3_eq (hm : m = vm a) : fst3 a b c d e m = rounds ⟨a, b, c, d, e⟩ 3 := by
  have h : fst3 a b c d e m = (fst2 a b c d e m).drop (k0_pay283 a b c m) := by rfl
  rw [h, fst2_max, fst2_eq a b c d e m hm]; rfl

theorem fst3_max : k0_pay290 a b c d m = vm (fst3 a b c d e m).a := by rfl

def fst4 : VRegs := ⟨k0_pay292 a b c d e m, k0_pay293 a b c d e m, k0_pay294 a b c d e m, k0_pay295 a b c d e m, k0_pay296 a b c d e m⟩

theorem fst4_eq (hm : m = vm a) : fst4 a b c d e m = rounds ⟨a, b, c, d, e⟩ 4 := by
  have h : fst4 a b c d e m = (fst3 a b c d e m).drop (k0_pay290 a b c d m) := by rfl
  rw [h, fst3_max, fst3_eq a b c d e m hm]; rfl

theorem fst4_max : k0_pay297 a b c d e m = vm (fst4 a b c d e m).a := by rfl

def fst5 : VRegs := ⟨k0_pay299 a b c d e m, k0_pay300 a b c d e m, k0_pay301 a b c d e m, k0_pay302 a b c d e m, k0_pay303 a b c d e m⟩

theorem fst5_eq (hm : m = vm a) : fst5 a b c d e m = rounds ⟨a, b, c, d, e⟩ 5 := by
  have h : fst5 a b c d e m = (fst4 a b c d e m).drop (k0_pay297 a b c d e m) := by rfl
  rw [h, fst4_max, fst4_eq a b c d e m hm]; rfl

theorem fst5_max : k0_pay304 a b c d e m = vm (fst5 a b c d e m).a := by rfl

/-! The second run of five rounds in the body's arithmetic: each round is a step from the one before. -/

def snd1 : VRegs := ⟨k0_pay306 a b m, k0_pay307 a b c m, k0_pay308 a c d m, k0_pay309 a d e m, k0_pay310 a e m⟩

theorem snd1_eq (hm : m = vm a) : snd1 a b c d e m = rounds ⟨a, b, c, d, e⟩ 1 := by
  subst hm; rfl

theorem snd1_max : k0_pay311 a b m = vm (snd1 a b c d e m).a := by rfl

def snd2 : VRegs := ⟨k0_pay313 a b c m, k0_pay314 a b c d m, k0_pay315 a b c d e m, k0_pay316 a b d e m, k0_pay317 a b e m⟩

theorem snd2_eq (hm : m = vm a) : snd2 a b c d e m = rounds ⟨a, b, c, d, e⟩ 2 := by
  have h : snd2 a b c d e m = (snd1 a b c d e m).drop (k0_pay311 a b m) := by rfl
  rw [h, snd1_max, snd1_eq a b c d e m hm]; rfl

theorem snd2_max : k0_pay318 a b c m = vm (snd2 a b c d e m).a := by rfl

def snd3 : VRegs := ⟨k0_pay320 a b c d m, k0_pay321 a b c d e m, k0_pay322 a b c d e m, k0_pay323 a b c d e m, k0_pay324 a b c e m⟩

theorem snd3_eq (hm : m = vm a) : snd3 a b c d e m = rounds ⟨a, b, c, d, e⟩ 3 := by
  have h : snd3 a b c d e m = (snd2 a b c d e m).drop (k0_pay318 a b c m) := by rfl
  rw [h, snd2_max, snd2_eq a b c d e m hm]; rfl

theorem snd3_max : k0_pay325 a b c d m = vm (snd3 a b c d e m).a := by rfl

def snd4 : VRegs := ⟨k0_pay327 a b c d e m, k0_pay328 a b c d e m, k0_pay329 a b c d e m, k0_pay330 a b c d e m, k0_pay331 a b c d e m⟩

theorem snd4_eq (hm : m = vm a) : snd4 a b c d e m = rounds ⟨a, b, c, d, e⟩ 4 := by
  have h : snd4 a b c d e m = (snd3 a b c d e m).drop (k0_pay325 a b c d m) := by rfl
  rw [h, snd3_max, snd3_eq a b c d e m hm]; rfl

theorem snd4_max : k0_pay332 a b c d e m = vm (snd4 a b c d e m).a := by rfl

def snd5 : VRegs := ⟨k0_pay334 a b c d e m, k0_pay335 a b c d e m, k0_pay336 a b c d e m, k0_pay337 a b c d e m, k0_pay338 a b c d e m⟩

theorem snd5_eq (hm : m = vm a) : snd5 a b c d e m = rounds ⟨a, b, c, d, e⟩ 5 := by
  have h : snd5 a b c d e m = (snd4 a b c d e m).drop (k0_pay332 a b c d e m) := by rfl
  rw [h, snd4_max, snd4_eq a b c d e m hm]; rfl

theorem snd5_max : k0_pay339 a b c d e m = vm (snd5 a b c d e m).a := by rfl

end Runs

/-- The registers of the kernel's body after its network. -/
def r0 (x : Vec Ideal S512x4096 .bf16) : VRegs :=
  ⟨k0_pay254 (k0_pay30 x) (k0_pay31 x) (k0_pay32 x) (k0_pay33 x) (w356 x),
    k0_pay256 (k0_pay30 x) (k0_pay31 x) (k0_pay32 x) (k0_pay33 x) (w356 x) (w359 x),
    k0_pay258 (k0_pay30 x) (k0_pay31 x) (k0_pay32 x) (k0_pay33 x) (w356 x) (w359 x) (w362 x),
    k0_pay260 (k0_pay30 x) (k0_pay31 x) (k0_pay32 x) (k0_pay33 x) (w356 x) (w359 x) (w362 x) (w364 x),
    k0_pay261 (k0_pay30 x) (k0_pay31 x) (k0_pay32 x) (k0_pay33 x) (w355 x) (w356 x) (w359 x) (w362 x) (w364 x) (w365 x)⟩

/-- The registers of the kernel's body after `n` rounds. -/
def vS (x : Vec Ideal S512x4096 .bf16) (n : ℕ) : VRegs := rounds (r0 x) n

theorem vS_row (x : Vec Ideal S512x4096 .bf16) (r : Fin 512) (n : ℕ) :
    (vS x n).row r = peel (fun l => net ⊥ (fun i => grp x i (ix2 r l)) 31) n := by
  induction n with
  | zero =>
    funext l
    exact (net_at_31 x (ix2 r l)).symm.trans (by rw [z_eq]; rfl)
  | succ n ih => exact (VRegs.row_drop _ r).trans (congrArg shifted ih)

theorem vm_vS (x : Vec Ideal S512x4096 .bf16) (r : Fin 512) (n : ℕ) :
    vm (vS x n).a (ix1 r) = chosen (fun l i => grp x i (ix2 r l)) n :=
  (vm_apply _ r).trans (congrArg top (vS_row x r n))

section Rounds

variable (x : Vec Ideal S512x4096 .bf16)

theorem max_0 : w411 x = vm (r0 x).a := by
  funext i
  rw [eq_ix1 i]
  have h := Ideal.multiReduction_maximumf_single (φ := .bf16) (r0 x).a 0xFF80#16 reduces_S512x128_S512 (.inr rfl) rfl (ix1 (i 0))
  refine Eq.trans h (Eq.trans ?_ (vm_apply (r0 x).a (i 0)).symm)
  rw [show (FloatOps.ofBits FTy.bf16 0xFF80#16 : Ideal FTy.bf16) = (⊥ : EReal) from zb_eq]
  refine congrArg (Finset.fold max (⊥ : EReal) · (Finset.univ : Finset (Fin 128))) (funext fun l => congrArg (r0 x).a ?_)
  exact eq_ix2 _

/-- The registers after the first round, by their names in the body. -/
def r1 : VRegs := ⟨w416 x, w417 x, w418 x, w419 x, w421 x⟩

/-- The registers after six rounds. -/
def r6 : VRegs := ⟨w466 x, w467 x, w468 x, w469 x, w471 x⟩

/-- The registers after eleven rounds. -/
def r11 : VRegs := ⟨w516 x, w517 x, w518 x, w519 x, w521 x⟩

theorem r1_eq : r1 x = vS x 1 := by
  have h : r1 x = (r0 x).drop (w411 x) := by rfl
  rw [h, max_0]; rfl

theorem from_1 (k : ℕ) : rounds (r1 x) k = vS x (1 + k) := by
  rw [r1_eq]; exact (rounds_add _ 1 k).symm

theorem max_r1 : w422 x = vm (w416 x) := by rfl

theorem max_1 : w422 x = vm (vS x 1).a := by rw [← r1_eq]; exact max_r1 x

theorem max_2 : w432 x = vm (vS x 2).a :=
  (fst1_max (w416 x) (w417 x) (w418 x) (w419 x) (w421 x) (w422 x)).trans
    (congrArg (fun s : VRegs => vm s.a) ((fst1_eq (w416 x) (w417 x) (w418 x) (w419 x) (w421 x) (w422 x) (max_r1 x)).trans (from_1 x 1)))

theorem max_3 : w442 x = vm (vS x 3).a :=
  (fst2_max (w416 x) (w417 x) (w418 x) (w419 x) (w421 x) (w422 x)).trans
    (congrArg (fun s : VRegs => vm s.a) ((fst2_eq (w416 x) (w417 x) (w418 x) (w419 x) (w421 x) (w422 x) (max_r1 x)).trans (from_1 x 2)))

theorem max_4 : w452 x = vm (vS x 4).a :=
  (fst3_max (w416 x) (w417 x) (w418 x) (w419 x) (w421 x) (w422 x)).trans
    (congrArg (fun s : VRegs => vm s.a) ((fst3_eq (w416 x) (w417 x) (w418 x) (w419 x) (w421 x) (w422 x) (max_r1 x)).trans (from_1 x 3)))

theorem max_5 : w462 x = vm (vS x 5).a :=
  (fst4_max (w416 x) (w417 x) (w418 x) (w419 x) (w421 x) (w422 x)).trans
    (congrArg (fun s : VRegs => vm s.a) ((fst4_eq (w416 x) (w417 x) (w418 x) (w419 x) (w421 x) (w422 x) (max_r1 x)).trans (from_1 x 4)))

theorem r6_fst : r6 x = fst5 (w416 x) (w417 x) (w418 x) (w419 x) (w421 x) (w422 x) := by
  unfold r6 w466 w467 w468 w469 w471 fst5
  with_reducible rfl

theorem r6_eq : r6 x = vS x 6 := by
  rw [r6_fst, fst5_eq _ _ _ _ _ _ (max_r1 x)]
  change rounds (r1 x) 5 = _
  rw [from_1]

theorem from_6 (k : ℕ) : rounds (r6 x) k = vS x (6 + k) := by
  rw [r6_eq]; exact (rounds_add _ 6 k).symm

theorem r6_a : (r6 x).a = w466 x := by unfold r6; with_reducible rfl

theorem max_r6 : w472 x = vm (w466 x) := by
  rw [← r6_a, r6_fst, ← fst5_max]
  unfold w472
  with_reducible rfl

theorem max_6 : w472 x = vm (vS x 6).a := by rw [← r6_eq, r6_a, max_r6]

theorem max_7 : w482 x = vm (vS x 7).a :=
  (snd1_max (w466 x) (w467 x) (w468 x) (w469 x) (w471 x) (w472 x)).trans
    (congrArg (fun s : VRegs => vm s.a) ((snd1_eq (w466 x) (w467 x) (w468 x) (w469 x) (w471 x) (w472 x) (max_r6 x)).trans (from_6 x 1)))

theorem max_8 : w492 x = vm (vS x 8).a :=
  (snd2_max (w466 x) (w467 x) (w468 x) (w469 x) (w471 x) (w472 x)).trans
    (congrArg (fun s : VRegs => vm s.a) ((snd2_eq (w466 x) (w467 x) (w468 x) (w469 x) (w471 x) (w472 x) (max_r6 x)).trans (from_6 x 2)))

theorem max_9 : w502 x = vm (vS x 9).a :=
  (snd3_max (w466 x) (w467 x) (w468 x) (w469 x) (w471 x) (w472 x)).trans
    (congrArg (fun s : VRegs => vm s.a) ((snd3_eq (w466 x) (w467 x) (w468 x) (w469 x) (w471 x) (w472 x) (max_r6 x)).trans (from_6 x 3)))

theorem max_10 : w512 x = vm (vS x 10).a :=
  (snd4_max (w466 x) (w467 x) (w468 x) (w469 x) (w471 x) (w472 x)).trans
    (congrArg (fun s : VRegs => vm s.a) ((snd4_eq (w466 x) (w467 x) (w468 x) (w469 x) (w471 x) (w472 x) (max_r6 x)).trans (from_6 x 4)))

theorem r11_snd : r11 x = snd5 (w466 x) (w467 x) (w468 x) (w469 x) (w471 x) (w472 x) := by
  unfold r11 w516 w517 w518 w519 w521 snd5
  with_reducible rfl

theorem r11_eq : r11 x = vS x 11 := by
  rw [r11_snd, snd5_eq _ _ _ _ _ _ (max_r6 x)]
  change rounds (r6 x) 5 = _
  rw [from_6]

theorem from_11 (k : ℕ) : rounds (r11 x) k = vS x (11 + k) := by
  rw [r11_eq]; exact (rounds_add _ 11 k).symm

theorem r11_a : (r11 x).a = w516 x := by unfold r11; with_reducible rfl

theorem max_r11 : w522 x = vm (w516 x) := by
  rw [← r11_a, r11_snd, ← snd5_max]
  unfold w522
  with_reducible rfl

theorem max_11 : w522 x = vm (vS x 11).a := by rw [← r11_eq, r11_a, max_r11]

end Rounds

/-! ## The sixteen columns -/

/-- Sixteen values per row, side by side. -/
def cols (f : Fin 16 → FVec Ideal S512 .f32) : FVec Ideal S512x16 .f32 :=
  concatenate S512x16 1 [⟨S512x1, shapeCast S512x1 (f 0) shapeCasts_S512_S512x1⟩, ⟨S512x1, shapeCast S512x1 (f 1) shapeCasts_S512_S512x1⟩,
    ⟨S512x1, shapeCast S512x1 (f 2) shapeCasts_S512_S512x1⟩, ⟨S512x1, shapeCast S512x1 (f 3) shapeCasts_S512_S512x1⟩,
    ⟨S512x1, shapeCast S512x1 (f 4) shapeCasts_S512_S512x1⟩, ⟨S512x1, shapeCast S512x1 (f 5) shapeCasts_S512_S512x1⟩,
    ⟨S512x1, shapeCast S512x1 (f 6) shapeCasts_S512_S512x1⟩, ⟨S512x1, shapeCast S512x1 (f 7) shapeCasts_S512_S512x1⟩,
    ⟨S512x1, shapeCast S512x1 (f 8) shapeCasts_S512_S512x1⟩, ⟨S512x1, shapeCast S512x1 (f 9) shapeCasts_S512_S512x1⟩,
    ⟨S512x1, shapeCast S512x1 (f 10) shapeCasts_S512_S512x1⟩, ⟨S512x1, shapeCast S512x1 (f 11) shapeCasts_S512_S512x1⟩,
    ⟨S512x1, shapeCast S512x1 (f 12) shapeCasts_S512_S512x1⟩, ⟨S512x1, shapeCast S512x1 (f 13) shapeCasts_S512_S512x1⟩,
    ⟨S512x1, shapeCast S512x1 (f 14) shapeCasts_S512_S512x1⟩, ⟨S512x1, shapeCast S512x1 (f 15) shapeCasts_S512_S512x1⟩]
    concatenates_S512x1_S512x1_S512x1_S512x1_S512x1_S512x1_S512x1_S512x1_S512x1_S512x1_S512x1_S512x1_S512x1_S512x1_S512x1_S512x1_S512x16_d1

theorem cols_apply (f : Fin 16 → FVec Ideal S512 .f32) (r : Fin 512) (k : Fin 16) : cols f (ix2 r k) = f k (ix1 r) := by
  refine (concatenate_ofFn_unit_apply (t := S512x16) (s₁ := S512x1) (1 : Fin 2) (fun n : Fin 16 => shapeCast S512x1 (f n) shapeCasts_S512_S512x1) concatenates_S512x1_S512x1_S512x1_S512x1_S512x1_S512x1_S512x1_S512x1_S512x1_S512x1_S512x1_S512x1_S512x1_S512x1_S512x1_S512x1_S512x16_d1 rfl rfl (ix2 r k) k rfl
    (ix2 r (0 : Fin 1)) (fun b hb => ?_)).trans (shapeCast_a_a1_apply _ _ _ _)
  match b with
  | ⟨0, _⟩ => rfl
  | ⟨1, _⟩ => exact absurd rfl hb

/-- The last four rounds, of which the body computes what it needs, and the sixteen greatest values of each row. -/
theorem tail_eq (m0 : FVec Ideal S512 .bf16) (m1 m2 m3 m4 m5 m6 m7 m8 m9 m10 m11 : FVec Ideal S512 .f32) (a b c d e : FVec Ideal S512x128 .f32) (f : Fin 16 → FVec Ideal S512 .f32)
  (f0 : f 0 = m0) (f1 : f 1 = m1) (f2 : f 2 = m2) (f3 : f 3 = m3) (f4 : f 4 = m4) (f5 : f 5 = m5) (f6 : f 6 = m6) (f7 : f 7 = m7) (f8 : f 8 = m8)
  (f9 : f 9 = m9) (f10 : f 10 = m10) (f11 : f 11 = m11)
  (f12 : f 12 = vm (VRegs.drop m11 ⟨a, b, c, d, e⟩).a) (f13 : f 13 = vm (VRegs.drop m11 ⟨a, b, c, d, e⟩).step.a)
  (f14 : f 14 = vm (VRegs.drop m11 ⟨a, b, c, d, e⟩).step.step.a) (f15 : f 15 = vm (VRegs.drop m11 ⟨a, b, c, d, e⟩).step.step.step.a) :
   k0_pay340 m0 m1 m2 m3 m4 m5 m6 m7 m8 m9 m10 a b c d e m11 =
   shapeCast S1x512x16 (shapeCast S1x512x16 (cols f) shapeCasts_S512x16_S1x512x16) shapeCasts_S1x512x16_S1x512x16 := by
  unfold k0_pay340 cols
  rw [f0, f1, f2, f3, f4, f5, f6, f7, f8, f9, f10, f11, f12, f13, f14, f15]
  unfold VRegs.step VRegs.drop vm spread
  dsimp only
  rfl
theorem locV_eq (x : Vec Ideal S512x4096 .bf16) : locV x
    = shapeCast S1x512x16 (shapeCast S1x512x16 (cols fun n => vm (vS x n.val).a) shapeCasts_S512x16_S1x512x16) shapeCasts_S1x512x16_S1x512x16 := by
  have h (k : ℕ) : rounds ((r11 x).drop (w522 x)) k = vS x (12 + k) := by
    have e : (r11 x).drop (w522 x) = vS x 12 := by rw [max_11, ← r11_eq, ← from_11 x 1]; rfl
    rw [e]; exact (rounds_add _ 12 k).symm
  unfold locV
  exact tail_eq _ _ _ _ _ _ _ _ _ _ _ _ _ _ _ _ _ _ (max_0 x).symm (max_1 x).symm (max_2 x).symm (max_3 x).symm (max_4 x).symm (max_5 x).symm (max_6 x).symm
    (max_7 x).symm (max_8 x).symm (max_9 x).symm (max_10 x).symm (max_11 x).symm (congrArg (fun s : VRegs => vm s.a) (h 0)).symm
    (congrArg (fun s : VRegs => vm s.a) (h 1)).symm (congrArg (fun s : VRegs => vm s.a) (h 2)).symm (congrArg (fun s : VRegs => vm s.a) (h 3)).symm

/-- The values a device writes for row `r`: those its lanes select. -/
theorem locV_apply (x : Vec Ideal S512x4096 .bf16) (r : Fin 512) (k : Fin 16) :
    locV x (ix3 (0 : Fin 1) r k) = chosen (fun l i => grp x i (ix2 r l)) k.val := by
  rw [locV_eq, shapeCast_apply _ _ _ (ix3 (0 : Fin 1) r k) rfl]
  exact (shapeCast_ab_1ab_apply _ _ _ _ _).trans ((cols_apply _ r k).trans (vm_vS x r k.val))

end Cert.TopK

end
-- ==== Proof.Final.lean ====
/-
# What the kernel writes, read at a row

The eight slots of selected values side by side (`all_apply`), gone through in falling order: the body's last sixteen values
are `falling` (Select.lean) of a row's 128 selected values (`outV_apply`).
-/
module

public import proofs.«01_k».proof.Proof.Lanes

@[expose] public section

set_option maxRecDepth 65536

noncomputable section

namespace Cert.TopK

open Cert.KernelIdeal Cert.KernelIdeal.Gen
open Idealize.ShloMosaic Idealize.ShloMosaic.TcCoe Idealize.ShloMosaic.FloatOps
open Idealize.ShloMosaic.ValueIdx

/-! ## The eight slots -/

theorem slot_cuts (s : Fin 8) : S8x512x16.Slices ![s.val, 0, 0] S1x512x16 := by
  fin_cases s <;> decide

/-- Slot `s` as a matrix. -/
def slot (y : Vec Ideal S8x512x16 .f32) (s : Fin 8) : FVec Ideal S512x16 .f32 :=
  shapeCast S512x16 (extractStridedSlice S1x512x16 ![s.val, 0, 0] y (slot_cuts s)) shapeCasts_S1x512x16_S512x16

theorem slot_apply (y : Vec Ideal S8x512x16 .f32) (s : Fin 8) (r : Fin 512) (q : Fin 16) : slot y s (ix2 r q) = y (ix3 s r q) :=
  (shapeCast_1ab_ab_apply _ _ r q).trans (extractStridedSlice_apply _ _ _ _ _ (fun a => by
    match a with
    | ⟨0, _⟩ => rfl
    | ⟨1, _⟩ => exact (Nat.zero_add _).symm
    | ⟨2, _⟩ => exact (Nat.zero_add _).symm))

theorem all_eq (y : Vec Ideal S8x512x16 .f32) : z743 y
    = concatenate S512x128 1 [⟨S512x16, slot y 0⟩, ⟨S512x16, slot y 1⟩, ⟨S512x16, slot y 2⟩, ⟨S512x16, slot y 3⟩, ⟨S512x16, slot y 4⟩,
      ⟨S512x16, slot y 5⟩, ⟨S512x16, slot y 6⟩, ⟨S512x16, slot y 7⟩] concatenates_S512x16_S512x16_S512x16_S512x16_S512x16_S512x16_S512x16_S512x16_S512x128_d1 := by
  rfl

/-- The selected values of a row: sixteen of each device, one device after the other. -/
theorem all_apply (y : Vec Ideal S8x512x16 .f32) (r : Fin 512) (i : Fin 128) :
    z743 y (ix2 r i) = y (ix3 (⟨i.val / 16, by omega⟩ : Fin 8) r (⟨i.val % 16, by omega⟩ : Fin 16)) := by
  rw [all_eq]
  refine (concatenate_ofFn_apply (t := S512x128) (s₁ := S512x16) (1 : Fin 2) (fun s : Fin 8 => slot y s) concatenates_S512x16_S512x16_S512x16_S512x16_S512x16_S512x16_S512x16_S512x16_S512x128_d1 rfl 16 rfl (ix2 r i)
    ⟨i.val / 16, by omega⟩ rfl (ix2 r (⟨i.val % 16, by omega⟩ : Fin 16)) rfl (fun b hb => ?_)).trans (slot_apply y _ r _)
  match b with
  | ⟨0, _⟩ => rfl
  | ⟨1, _⟩ => exact absurd rfl hb

/-! ## The rounds -/

/-- The values below `m` of their row; the others give way. -/
def below (v : FVec Ideal S512x128 .f32) (m : FVec Ideal S512 .f32) : FVec Ideal S512x128 .f32 :=
  select (cmpf (F := Ideal) (φ := .f32) .olt v (spread m)) v (broadcast S512x128 (Scalar.ofBits (F := Ideal) .f32 0xFF800000#32))

theorem select_olt {α : Type} (a b : EReal) (x y : α) : Scalar.select (Ideal.cmp .olt a b) x y = if a < b then x else y := by
  unfold Scalar.select Ideal.cmp
  by_cases h : a < b <;> simp [h]

theorem below_apply (v : FVec Ideal S512x128 .f32) (m : FVec Ideal S512 .f32) (r : Fin 512) (i : Fin 128) :
    below v m (ix2 r i) = if v (ix2 r i) < m (ix1 r) then v (ix2 r i) else ⊥ := by
  refine (select_olt _ _ _ _).trans ?_
  rw [spread_apply]
  exact if_congr Iff.rfl rfl z_eq

/-- The row's greatest value, then the greatest below it, and so on. -/
def fall (v : FVec Ideal S512x128 .f32) (n : ℕ) : FVec Ideal S512 .f32 := Nat.rec (vm v) (fun _ m => vm (below v m)) n

theorem fall_apply (v : FVec Ideal S512x128 .f32) (n : ℕ) (r : Fin 512) : fall v n (ix1 r) = falling (fun i : Fin 128 => v (ix2 r i)) n := by
  induction n with
  | zero => exact vm_apply v r
  | succ n ih =>
    have e : fall v (n + 1) = vm (below v (fall v n)) := rfl
    rw [e, vm_apply]
    refine Finset.sup_congr rfl fun i _ => ?_
    rw [below_apply, ih]
    rfl

theorem fall_next {v : FVec Ideal S512x128 .f32} {m m' : FVec Ideal S512 .f32} {n : ℕ} (h : m = fall v n) (h' : m' = vm (below v m)) :
    m' = fall v (n + 1) := by rw [h', h]; rfl

section Early

/-! The first seven rounds, in the body's arithmetic over the first three slots. -/

variable (y : Vec Ideal S8x512x16 .f32) (a b c : FVec Ideal S512x16 .f32)

theorem early_0 : k0_pay345 y a b c = vm (k0_pay344 y a b c) := by rfl
theorem early_1 : k0_pay346 y a b c = vm (below (k0_pay344 y a b c) (k0_pay345 y a b c)) := by rfl
theorem early_2 : k0_pay347 y a b c = vm (below (k0_pay344 y a b c) (k0_pay346 y a b c)) := by rfl
theorem early_3 : k0_pay348 y a b c = vm (below (k0_pay344 y a b c) (k0_pay347 y a b c)) := by rfl
theorem early_4 : k0_pay349 y a b c = vm (below (k0_pay344 y a b c) (k0_pay348 y a b c)) := by rfl
theorem early_5 : k0_pay350 y a b c = vm (below (k0_pay344 y a b c) (k0_pay349 y a b c)) := by rfl
theorem early_6 : k0_pay351 y a b c = below (k0_pay344 y a b c) (k0_pay350 y a b c) := by rfl

end Early

section Late

/-! The next eight, over all values `v` and those `w` that the round before left. -/

variable (v w : FVec Ideal S512x128 .f32)

theorem late_0 : k0_pay352 w = vm w := by rfl
theorem late_1 : k0_pay353 v w = vm (below v (k0_pay352 w)) := by rfl
theorem late_2 : k0_pay354 v w = vm (below v (k0_pay353 v w)) := by rfl
theorem late_3 : k0_pay355 v w = vm (below v (k0_pay354 v w)) := by rfl
theorem late_4 : k0_pay356 v w = vm (below v (k0_pay355 v w)) := by rfl
theorem late_5 : k0_pay357 v w = vm (below v (k0_pay356 v w)) := by rfl
theorem late_6 : k0_pay358 v w = vm (below v (k0_pay357 v w)) := by rfl
theorem late_7 : k0_pay359 v w = vm (below v (k0_pay358 v w)) := by rfl

theorem late_8 : select (k0_pay360 v w) v (broadcast S512x128 (Scalar.ofBits (F := Ideal) .f32 0xFF800000#32)) = below v (k0_pay359 v w) := by rfl

end Late

section All

variable (y : Vec Ideal S8x512x16 .f32)

theorem fall_0 : z744 y = fall (z743 y) 0 := early_0 y _ _ _
theorem fall_1 : z750 y = fall (z743 y) 1 := fall_next (fall_0 y) (early_1 y _ _ _)
theorem fall_2 : z756 y = fall (z743 y) 2 := fall_next (fall_1 y) (early_2 y _ _ _)
theorem fall_3 : z762 y = fall (z743 y) 3 := fall_next (fall_2 y) (early_3 y _ _ _)
theorem fall_4 : z768 y = fall (z743 y) 4 := fall_next (fall_3 y) (early_4 y _ _ _)
theorem fall_5 : z774 y = fall (z743 y) 5 := fall_next (fall_4 y) (early_5 y _ _ _)

theorem left_6 : z779 y = below (z743 y) (z774 y) := early_6 y _ _ _

theorem fall_6 : z780 y = fall (z743 y) 6 := fall_next (fall_5 y) ((late_0 (z779 y)).trans (congrArg vm (left_6 y)))
theorem fall_7 : z786 y = fall (z743 y) 7 := fall_next (fall_6 y) (late_1 (z743 y) (z779 y))
theorem fall_8 : z792 y = fall (z743 y) 8 := fall_next (fall_7 y) (late_2 (z743 y) (z779 y))
theorem fall_9 : z798 y = fall (z743 y) 9 := fall_next (fall_8 y) (late_3 (z743 y) (z779 y))
theorem fall_10 : z804 y = fall (z743 y) 10 := fall_next (fall_9 y) (late_4 (z743 y) (z779 y))
theorem fall_11 : z810 y = fall (z743 y) 11 := fall_next (fall_10 y) (late_5 (z743 y) (z779 y))
theorem fall_12 : z816 y = fall (z743 y) 12 := fall_next (fall_11 y) (late_6 (z743 y) (z779 y))
theorem fall_13 : z822 y = fall (z743 y) 13 := fall_next (fall_12 y) (late_7 (z743 y) (z779 y))

end All

/-- The last two rounds, and the sixteen values of each row side by side. -/
theorem last_eq (v w : FVec Ideal S512x128 .f32) (m0 m1 m2 m3 m4 m5 m6 m7 m8 m9 m10 m11 m12 m13 : FVec Ideal S512 .f32) (p : IVec S512x128 1)
    (f : Fin 16 → FVec Ideal S512 .f32) (hw : select p v (broadcast S512x128 (Scalar.ofBits (F := Ideal) .f32 0xFF800000#32)) = w)
    (f0 : f 0 = m0) (f1 : f 1 = m1) (f2 : f 2 = m2) (f3 : f 3 = m3) (f4 : f 4 = m4) (f5 : f 5 = m5) (f6 : f 6 = m6) (f7 : f 7 = m7) (f8 : f 8 = m8) (f9 : f 9 = m9) (f10 : f 10 = m10) (f11 : f 11 = m11) (f12 : f 12 = m12) (f13 : f 13 = m13)
    (f14 : f 14 = vm w) (f15 : f 15 = vm (below v (vm w))) :
    k0_pay361 v m0 m1 m2 m3 m4 m5 m6 m7 m8 m9 m10 m11 m12 m13 p = cols f := by
  subst hw
  unfold k0_pay361 cols
  rw [f0, f1, f2, f3, f4, f5, f6, f7, f8, f9, f10, f11, f12, f13, f14, f15]
  unfold below vm spread
  dsimp only

theorem outV_eq (y : Vec Ideal S8x512x16 .f32) : outV y = cols fun n => fall (z743 y) n.val := by
  unfold outV
  have h : vm (below (z743 y) (z822 y)) = fall (z743 y) 14 := fall_next (fall_13 y) rfl
  exact last_eq (z743 y) (below (z743 y) (z822 y)) _ _ _ _ _ _ _ _ _ _ _ _ _ _ _ _ (late_8 (z743 y) (z779 y))
    (fall_0 y).symm (fall_1 y).symm (fall_2 y).symm (fall_3 y).symm (fall_4 y).symm (fall_5 y).symm (fall_6 y).symm (fall_7 y).symm (fall_8 y).symm (fall_9 y).symm (fall_10 y).symm (fall_11 y).symm (fall_12 y).symm (fall_13 y).symm h.symm (fall_next h rfl).symm

/-- The values a device writes out for row `r`: the selected values of all devices in falling order, equal ones once. -/
theorem outV_apply (y : Vec Ideal S8x512x16 .f32) (r : Fin 512) (k : Fin 16) :
    outV y (ix2 r k) = falling (fun i : Fin 128 => y (ix3 (⟨i.val / 16, by omega⟩ : Fin 8) r (⟨i.val % 16, by omega⟩ : Fin 16))) k.val := by
  rw [outV_eq]
  refine (cols_apply _ r k).trans ((fall_apply _ _ r).trans (congrArg (fun c => falling c k.val) (funext fun i => all_apply y r i)))

end Cert.TopK

end
-- ==== Proof.Value.lean ====
/-
# The values the kernel computes

Where the mask is set, a row's 128 selected values gone through in falling order give its entry at place `k` (`selected_eq`):
the hypotheses of `row_select` (Select.lean) are read off the row's falling order. The kernel's result array is then the
reference's there (`result_eq`).
-/
module

public import proofs.«01_k».proof.Proof.Mask
public import proofs.«01_k».proof.Proof.Final
public import proofs.«01_k».proof.Proof.Run
public import Idealize.ShloMosaic.Lib.Layout
public import Idealize.ShloMosaic.Lib.Pipeline.ValueKit

@[expose] public section

set_option maxRecDepth 65536

noncomputable section

namespace Cert.TopK

open Cert.KernelIdeal Cert.KernelIdeal.Gen
open Idealize.ShloMosaic Idealize.ShloMosaic.TcCoe
open Cert.TopK.Ref (order order_injective order_surjective order_falls tops tops_apply mask_gives)

/-! ## A row's falling order as a sequence -/

abbrev Whole := (⟨2, ![512, 32768]⟩ : Shape).Idx → EReal

/-- Row `r`'s value at place `j`. -/
def place (X : Whole) (r : Fin 512) (j : ℕ) : EReal := if h : j < 32768 then X (ValueIdx.ix2 r (order X r ⟨j, h⟩)) else ⊥

theorem place_eq (X : Whole) (r : Fin 512) (j : ℕ) (h : j < 32768) : place X r j = X (ValueIdx.ix2 r (order X r ⟨j, h⟩)) := dif_pos h

theorem place_tops (X : Whole) (r : Fin 512) (j : Fin 16) : place X r j.val = tops X (ValueIdx.ix2 r j) :=
  (place_eq X r j.val (by omega)).trans (tops_apply X r j).symm

/-- Value `i` of lane `l` of device `d`'s block of the row. -/
def cell (X : Whole) (r : Fin 512) (d : Fin 8) (l : Fin 128) (i : ℕ) : EReal :=
  if h : i < 32 then X (ValueIdx.ix2 r ⟨4096 * d.val + 128 * i + l.val, by omega⟩) else ⊥

theorem cell_eq (X : Whole) (r : Fin 512) (d : Fin 8) (l : Fin 128) (i : ℕ) (h : i < 32) :
    cell X r d l i = X (ValueIdx.ix2 r ⟨4096 * d.val + 128 * i + l.val, by omega⟩) := dif_pos h

/-- Each column is some cell's. -/
theorem exists_cell (X : Whole) (r : Fin 512) (n : Fin 32768) : ∃ d l, ∃ i ≤ 31, cell X r d l i = X (ValueIdx.ix2 r n) := by
  refine ⟨⟨n.val / 4096, by omega⟩, ⟨n.val % 128, by omega⟩, n.val % 4096 / 128, by omega, ?_⟩
  rw [cell_eq _ _ _ _ _ (by omega)]
  refine congrArg (fun q => X (ValueIdx.ix2 r q)) (Fin.ext ?_)
  show 4096 * (n.val / 4096) + 128 * (n.val % 4096 / 128) + n.val % 128 = n.val
  omega

/-- A value that reaches place `k` is one of the places up to `k`. -/
theorem reaching (X : Whole) (r : Fin 512) (k : ℕ) (hk : k < 32768) (n : Fin 32768) (h : place X r k ≤ X (ValueIdx.ix2 r n)) :
    ∃ j ≤ k, X (ValueIdx.ix2 r n) = place X r j := by
  obtain ⟨p, rfl⟩ := order_surjective X r n
  rcases Nat.lt_or_ge k p.val with hp | hp
  · refine ⟨k, le_refl _, le_antisymm ?_ h⟩
    rw [place_eq X r k hk]
    exact order_falls X r ⟨k, hk⟩ p hp.le
  · exact ⟨p.val, hp, (place_eq X r p.val p.isLt).symm⟩

/-- At most `j` of a device's values are above place `j`. -/
theorem few_above (X : Whole) (r : Fin 512) (j : ℕ) (hj : j < 32768) (d : Fin 8) :
    ∑ l, ((Finset.range 32).filter fun i => place X r j < cell X r d l i).card ≤ j := by
  rw [← Finset.card_sigma]
  obtain ⟨τ, hτ⟩ : ∃ τ : Fin 32768 → Fin 32768, ∀ p, order X r (τ p) = p := ⟨_, Function.surjInv_eq (order_surjective X r)⟩
  have τ_inj : Function.Injective τ := fun p q h => (hτ p).symm.trans ((congrArg (order X r) h).trans (hτ q))
  have hlt : ∀ x ∈ Finset.univ.sigma fun l : Fin 128 => (Finset.range 32).filter fun i => place X r j < cell X r d l i, x.2 < 32 :=
    fun x hx => Finset.mem_range.mp (Finset.mem_filter.mp (Finset.mem_sigma.mp hx).2).1
  let f : (Σ _ : Fin 128, ℕ) → ℕ := fun x => if h : x.2 < 32 then (τ ⟨4096 * d.val + 128 * x.2 + x.1.val, by omega⟩).val else 0
  refine (Finset.card_le_card_of_injOn f (fun x hx => ?_) (fun x hx y hy hxy => ?_)).trans (Finset.card_range j).le
  · have h := hlt x hx
    have hx' := (Finset.mem_filter.mp (Finset.mem_sigma.mp hx).2).2
    rw [cell_eq _ _ _ _ _ h, place_eq X r j hj] at hx'
    have hf : f x = (τ ⟨4096 * d.val + 128 * x.2 + x.1.val, by omega⟩).val := dif_pos h
    simp only [Finset.coe_range, Set.mem_Iio]
    rw [hf]
    by_contra hge
    have := order_falls X r ⟨j, hj⟩ (τ ⟨4096 * d.val + 128 * x.2 + x.1.val, by omega⟩) (Nat.le_of_not_lt hge)
    rw [hτ] at this
    exact absurd hx' (not_lt.mpr this)
  · have hx' := hlt x hx
    have hy' := hlt y hy
    have hfx : f x = (τ ⟨4096 * d.val + 128 * x.2 + x.1.val, by omega⟩).val := dif_pos hx'
    have hfy : f y = (τ ⟨4096 * d.val + 128 * y.2 + y.1.val, by omega⟩).val := dif_pos hy'
    rw [hfx, hfy] at hxy
    have h := congrArg Fin.val (τ_inj (Fin.ext hxy))
    simp only at h
    obtain ⟨l, i⟩ := x
    obtain ⟨l', i'⟩ := y
    simp only at h hx' hy'
    have hl : l = l' := Fin.ext (by omega)
    have hi : i = i' := by omega
    rw [hl, hi]

/-- Where the mask is set, the selected values in falling order give the row's entry at place `k`. -/
theorem selected_eq (X : Whole) (r : Fin 512) (k : Fin 16) (hm : Cert.On_well_separated.fn (F := Ideal) X (ValueIdx.ix2 r k) = 1#1)
    (x : Fin 8 → Fin 128 → ℕ → EReal) (hx : ∀ d l, ∀ i < 32, x d l i = cell X r d l i)
    (c : Fin 128 → EReal) (hc : ∀ i : Fin 128, c i = chosen (x ⟨i.val / 16, by omega⟩) (i.val % 16)) :
    falling c k.val = tops X (ValueIdx.ix2 r k) := by
  obtain ⟨hfall, hfew⟩ := mask_gives X r k hm
  have hcount : ∀ d l (p : EReal → Prop) [DecidablePred p], ((Finset.range 32).filter fun i => p (x d l i)) = (Finset.range 32).filter fun i => p (cell X r d l i) :=
    fun d l p _ => Finset.filter_congr fun i hi => by rw [hx d l i (Finset.mem_range.mp hi)]
  rw [← place_tops]
  refine row_select x (place X r) k.val (fun j hj => ?_) (fun j hj => ?_) (fun d l i hi h => ?_) (fun d j hj => ?_) (fun d l => ?_) c hc
  · have := hfall ⟨j, by omega⟩ hj
    rw [← place_tops, ← place_tops] at this
    exact this
  · obtain ⟨d, l, i, hi, h⟩ := exists_cell X r (order X r ⟨j, by omega⟩)
    exact ⟨d, l, i, hi, by rw [hx d l i (by omega), h, place_eq X r j (by omega)]⟩
  · rw [hx d l i (by omega), cell_eq _ _ _ _ _ (by omega)] at h ⊢
    exact reaching X r k.val (by omega) _ h
  · have := few_above X r j (by omega) d
    refine le_trans (le_of_eq ?_) (this.trans (by omega))
    exact Finset.sum_congr rfl fun l _ => by rw [hcount d l (fun v => place X r j < v)]
  · rw [hcount d l (fun v => place X r k.val ≤ v)]
    refine le_trans ?_ (hfew d l)
    rw [place_tops]
    refine Finset.card_le_card_of_injOn (fun i => if h : i < 32 then ⟨i, h⟩ else 0) (fun i hi => ?_) (fun i hi j hj hij => ?_)
    · obtain ⟨hi, h⟩ := Finset.mem_filter.mp hi
      have hi' := Finset.mem_range.mp hi
      rw [cell_eq _ _ _ _ _ hi'] at h
      simpa [hi'] using h
    · have hi' := Finset.mem_range.mp (Finset.mem_filter.mp hi).1
      have hj' := Finset.mem_range.mp (Finset.mem_filter.mp hj).1
      simpa [hi', hj'] using hij

/-! ## The result array -/

section result
variable (m : (ℓ : Loc nD τ sig) → Buf (Elt Ideal) ℓ) (ρ : Dev nD → PrngReg)

theorem finalA_out (c : Dev nD) : finalA m ρ c (1 : Fin 2) = outV (gat m ρ) := by
  unfold finalA
  refine (dats m ρ 0 c).arrAt_eq_of_after_last 1 t0_0 (by decide +kernel) _ fun j => ?_
  rfl

theorem xstg_apply (c : Dev nD) (i : S512x4096.Idx) : xstg m ρ c i = m ((c : Thread nD τ).loc main_arg0) i := by
  unfold xstg
  blk_simp
  refine congrArg (m ((c : Thread nD τ).loc main_arg0)) (funext fun a => Fin.ext ?_)
  exact win0_0.rect_emb_val_of_index_zero (0 : Fin 1) a rfl i

/-- Each device's result is the reference's entry wherever the mask is set. -/
theorem result_eq (X : Whole) (hX : ∀ c : Dev nD, m ((c : Thread nD τ).loc main_arg0) = Layout.block ⟨2, ![512, 4096]⟩ ⟨2, ![512, 32768]⟩ 1 8 c X)
    (c : Dev nD) (i : (⟨2, ![512, 16]⟩ : Shape).Idx) (hm : Cert.On_well_separated.fn (F := Ideal) X i = 1#1) :
    finalA m ρ c (1 : Fin 2) i = tops X i := by
  obtain ⟨r, k, rfl⟩ : ∃ r k, i = ValueIdx.ix2 r k := ⟨_, _, ValueIdx.eq_ix2 i⟩
  rw [finalA_out, outV_apply]
  refine selected_eq X r k hm (fun d l i => grp (xstg m ρ d) i (ValueIdx.ix2 r l)) (fun d l i hi => ?_) _ (fun i => ?_)
  · rw [grp_apply _ _ hi, xstg_apply, hX, cell_eq _ _ _ _ _ hi]
    refine congrArg X (funext fun a => Fin.ext ?_)
    match a with
    | ⟨0, _⟩ => rfl
    | ⟨1, _⟩ =>
      show d.val * 4096 + (128 * i + l.val) = 4096 * d.val + 128 * i + l.val
      omega
  · exact locV_apply _ r ⟨i.val % 16, by omega⟩

end result

end Cert.TopK

end
-- ==== Proof.lean ====
/-
# The claims

The three frames, that the idealization rewrote nothing, and that kernel and reference agree wherever the mask is set.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_well_separated
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel's run, for any float values: the argument unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c 0).trans (Cert.TopK.finalA_x m ρ c), h.2⟩) (Cert.TopK.run_main (F := F) m ρ)

/-- The two programs have the same text: one body for both. -/
theorem body_same : Cert.Kernel.defs₀ (F := Bits) = Cert.KernelIdeal.defs₀ (F := Bits) := by
  unfold Cert.Kernel.defs₀ Cert.KernelIdeal.defs₀
  show Defs.onTc _ = Defs.onTc _
  refine congrArg Defs.onTc ?_
  funext l x
  match l, x with
  | ⟨0, _⟩, (t, s) => rfl

theorem defs_same : Cert.Kernel.defs (F := Bits) = Cert.KernelIdeal.defs (F := Bits) :=
  congrArg (Pipeline.defs Cert.Kernel.pcfgs) body_same

theorem main_same (c : Dev Cert.Kernel.nD) : Cert.Kernel.main (F := Bits) c = Cert.KernelIdeal.main (F := Bits) c := rfl

theorem frame_kernel : Cert.quiescent_Kernel (hKernel := Cert.Kernel.Gen.facts) := fun m ρ _ =>
  (congrArg (fun d => θ_run d (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)) defs_same).mpr (frame_any (F := Bits) m ρ)

theorem frame_kernelIdeal : Cert.quiescent_KernelIdeal (hKernelIdeal := Cert.KernelIdeal.Gen.facts) := fun m ρ _ => frame_any (F := Ideal) m ρ

/-- The reference has no semaphores. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Wherever the mask is set, kernel and reference end with the row's entry at that place of its falling order. -/
theorem agree : Cert.algebraic_KernelIdeal_ReferenceIdeal_on_well_separated (hKernelIdeal := Cert.KernelIdeal.Gen.facts)
    (hReferenceIdeal := Cert.ReferenceIdeal.Gen.facts) (hOn_well_separated := Cert.On_well_separated.Gen.facts) := fun m ρ m' ρ' _ hm =>
  ⟨Cert.TopK.Ref.tops (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
      ⟨fun i hi => (congrFun (h.1 c 1) i).trans (Cert.TopK.result_eq m ρ _ hm c i hi), (h.1 c 0).trans (Cert.TopK.finalA_x m ρ c)⟩)
      (Cert.TopK.run_main (F := Ideal) m ρ),
    (θ_run Cert.ReferenceIdeal.defs _ _).mono (fun _ h => ⟨fun i _ => congrFun ((h 0).1.trans rfl) i, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.On_well_separated.Gen.facts,
    frame_kernel, frame_kernelIdeal, frame_referenceIdeal, trivial, agree⟩

end Cert.Proof

end
